-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_zero_state [hPre_zero_state : Cert.Pre_zero_state.Facts] (m : (ℓ : Loc Cert.KernelIdeal.nD Cert.KernelIdeal.τ Cert.KernelIdeal.sig) → Buf (Elt Ideal) ℓ) : Prop :=
  ∀ c : Dev Cert.KernelIdeal.nD,
    (Cert.Pre_zero_state.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_zero_state [hPre_zero_state : Cert.Pre_zero_state.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_zero_state.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_KernelIdeal_pre_zero_state [hKernelIdeal : Cert.KernelIdeal.Facts] [hPre_zero_state : Cert.Pre_zero_state.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_zero_state m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_ReferenceIdeal_pre_zero_state [hReferenceIdeal : Cert.ReferenceIdeal.Facts] [hPre_zero_state : Cert.Pre_zero_state.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_zero_state m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def preserves_Kernel_KernelIdeal : Prop :=
  True

def algebraic_KernelIdeal_ReferenceIdeal_pre_zero_state [hKernelIdeal : Cert.KernelIdeal.Facts] [hReferenceIdeal : Cert.ReferenceIdeal.Facts] [hPre_zero_state : Cert.Pre_zero_state.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_zero_state m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v404) = v0 c
          ∧ r.2.mem ((c.tc : Thread Cert.ReferenceIdeal.nD Cert.ReferenceIdeal.τ).loc Cert.ReferenceIdeal.main_v390) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_zero_state : Cert.Pre_zero_state.Facts),
    quiescent_Kernel (hKernel := hKernel)
    ∧ quiescent_KernelIdeal (hKernelIdeal := hKernelIdeal)
    ∧ quiescent_KernelIdeal_pre_zero_state (hKernelIdeal := hKernelIdeal) (hPre_zero_state := hPre_zero_state)
    ∧ quiescent_ReferenceIdeal (hReferenceIdeal := hReferenceIdeal)
    ∧ quiescent_ReferenceIdeal_pre_zero_state (hReferenceIdeal := hReferenceIdeal) (hPre_zero_state := hPre_zero_state)
    ∧ preserves_Kernel_KernelIdeal
    ∧ algebraic_KernelIdeal_ReferenceIdeal_pre_zero_state (hKernelIdeal := hKernelIdeal) (hReferenceIdeal := hReferenceIdeal) (hPre_zero_state := hPre_zero_state)
-- ==== Pre_zero_state.lean ====
abbrev S8x10000x128 : Shape := ⟨3, ![8, 10000, 128]⟩
abbrev S2x320000 : Shape := ⟨2, ![2, 320000]⟩
abbrev S320000 : Shape := ⟨1, ![320000]⟩
abbrev S10000x128 : Shape := ⟨2, ![10000, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S10000x1 : Shape := ⟨2, ![10000, 1]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128 : S_.BroadcastsInDim S128 (![] : Fin 0 → Fin S128.rank)
  reducesTo_S128_S_d0 : S128.ReducesTo [0] S_
  bcast_S_S1 : S_.BroadcastsInDim S1 (![] : Fin 0 → Fin S1.rank)
  reducesTo_S1_S_d0 : S1.ReducesTo [0] S_

variable [Facts]

def fn_part2 {F : FTy → Type} [FloatOps F] (main_arg19 : FVec F S1 .f32) (main_v30 : IVec S_ 1) (main_cst_14 : FVec F S_ .f32) : IVec S_ 1 :=
  let main_v31 : FVec F S1 .f32 := broadcastInDim S1 ![] bcast_S_S1 main_cst_14
  let main_v32 : IVec S1 1 := cmpf .oeq main_arg19 main_v31
  let main_c_15 : IVec S_ 1 := constantI S_ 1 1#1
  let main_v33 : IVec S_ 1 := (fun x v => Host.reduce IntOp.andi x v reducesTo_S1_S_d0 h_S_) main_v32 main_c_15
  let main_v34 : IVec S_ 1 := andi main_v30 main_v33
  main_v34

def fn_part1 {F : FTy → Type} [FloatOps F] (main_arg11 : FVec F S128 .f32) (main_arg13 : FVec F S128 .f32) (main_arg15 : FVec F S128 .f32) (main_arg17 : FVec F S1 .f32) (main_arg19 : FVec F S1 .f32) (main_v14 : IVec S_ 1) (main_cst_6 : FVec F S_ .f32) : IVec S_ 1 :=
  let main_v15 : FVec F S128 .f32 := broadcastInDim S128 ![] bcast_S_S128 main_cst_6
  let main_v16 : IVec S128 1 := cmpf .oeq main_arg11 main_v15
  let main_c_7 : IVec S_ 1 := constantI S_ 1 1#1
  let main_v17 : IVec S_ 1 := (fun x v => Host.reduce IntOp.andi x v reducesTo_S128_S_d0 h_S_) main_v16 main_c_7
  let main_v18 : IVec S_ 1 := andi main_v14 main_v17
  let main_cst_8 : FVec F S_ .f32 := constant S_ .f32 0x00000000#32
  let main_v19 : FVec F S128 .f32 := broadcastInDim S128 ![] bcast_S_S128 main_cst_8
  let main_v20 : IVec S128 1 := cmpf .oeq main_arg13 main_v19
  let main_c_9 : IVec S_ 1 := constantI S_ 1 1#1
  let main_v21 : IVec S_ 1 := (fun x v => Host.reduce IntOp.andi x v reducesTo_S128_S_d0 h_S_) main_v20 main_c_9
  let main_v22 : IVec S_ 1 := andi main_v18 main_v21
  let main_cst_10 : FVec F S_ .f32 := constant S_ .f32 0x00000000#32
  let main_v23 : FVec F S128 .f32 := broadcastInDim S128 ![] bcast_S_S128 main_cst_10
  let main_v24 : IVec S128 1 := cmpf .oeq main_arg15 main_v23
  let main_c_11 : IVec S_ 1 := constantI S_ 1 1#1
  let main_v25 : IVec S_ 1 := (fun x v => Host.reduce IntOp.andi x v reducesTo_S128_S_d0 h_S_) main_v24 main_c_11
  let main_v26 : IVec S_ 1 := andi main_v22 main_v25
  let main_cst_12 : FVec F S_ .f32 := constant S_ .f32 0x00000000#32
  let main_v27 : FVec F S1 .f32 := broadcastInDim S1 ![] bcast_S_S1 main_cst_12
  let main_v28 : IVec S1 1 := cmpf .oeq main_arg17 main_v27
  let main_c_13 : IVec S_ 1 := constantI S_ 1 1#1
  let main_v29 : IVec S_ 1 := (fun x v => Host.reduce IntOp.andi x v reducesTo_S1_S_d0 h_S_) main_v28 main_c_13
  let main_v30 : IVec S_ 1 := andi main_v26 main_v29
  let main_cst_14 : FVec F S_ .f32 := constant S_ .f32 0x00000000#32
  fn_part2 (F := F) main_arg19 main_v30 main_cst_14

def fn {F : FTy → Type} [FloatOps F] (main_arg0 : FVec F S8x10000x128 .f32) (main_arg1 : IVec S2x320000 32) (main_arg2 : FVec F S320000 .f32) (main_arg3 : FVec F S10000x128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x1 .f32) (main_arg17 : FVec F S1 .f32) (main_arg18 : FVec F S10000x1 .f32) (main_arg19 : FVec F S1 .f32) : IVec S_ 1 :=
  let main_cst : FVec F S_ .f32 := constant S_ .f32 0x00000000#32
  let main_v0 : FVec F S10000x128 .f32 := broadcastInDim S10000x128 ![] bcast_S_S10000x128 main_cst
  let main_v1 : IVec S10000x128 1 := cmpf .oeq main_arg3 main_v0
  let main_c : IVec S_ 1 := constantI S_ 1 1#1
  let main_v2 : IVec S_ 1 := (fun x v => Host.reduce IntOp.andi x v reducesTo_S10000x128_S_d0_1 h_S_) main_v1 main_c
  let main_cst_0 : FVec F S_ .f32 := constant S_ .f32 0x00000000#32
  let main_v3 : FVec F S128 .f32 := broadcastInDim S128 ![] bcast_S_S128 main_cst_0
  let main_v4 : IVec S128 1 := cmpf .oeq main_arg5 main_v3
  let main_c_1 : IVec S_ 1 := constantI S_ 1 1#1
  let main_v5 : IVec S_ 1 := (fun x v => Host.reduce IntOp.andi x v reducesTo_S128_S_d0 h_S_) main_v4 main_c_1
  let main_v6 : IVec S_ 1 := andi main_v2 main_v5
  let main_cst_2 : FVec F S_ .f32 := constant S_ .f32 0x00000000#32
  let main_v7 : FVec F S128 .f32 := broadcastInDim S128 ![] bcast_S_S128 main_cst_2
  let main_v8 : IVec S128 1 := cmpf .oeq main_arg7 main_v7
  let main_c_3 : IVec S_ 1 := constantI S_ 1 1#1
  let main_v9 : IVec S_ 1 := (fun x v => Host.reduce IntOp.andi x v reducesTo_S128_S_d0 h_S_) main_v8 main_c_3
  let main_v10 : IVec S_ 1 := andi main_v6 main_v9
  let main_cst_4 : FVec F S_ .f32 := constant S_ .f32 0x00000000#32
  let main_v11 : FVec F S128 .f32 := broadcastInDim S128 ![] bcast_S_S128 main_cst_4
  let main_v12 : IVec S128 1 := cmpf .oeq main_arg9 main_v11
  let main_c_5 : IVec S_ 1 := constantI S_ 1 1#1
  let main_v13 : IVec S_ 1 := (fun x v => Host.reduce IntOp.andi x v reducesTo_S128_S_d0 h_S_) main_v12 main_c_5
  let main_v14 : IVec S_ 1 := andi main_v10 main_v13
  let main_cst_6 : FVec F S_ .f32 := constant S_ .f32 0x00000000#32
  fn_part1 (F := F) main_arg11 main_arg13 main_arg15 main_arg17 main_arg19 main_v14 main_cst_6
-- ==== Kernel.lean ====
abbrev S8x10000x128 : Shape := ⟨3, ![8, 10000, 128]⟩
abbrev S2x320000 : Shape := ⟨2, ![2, 320000]⟩
abbrev S320000 : Shape := ⟨1, ![320000]⟩
abbrev S10000x128 : Shape := ⟨2, ![10000, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S10000x1 : Shape := ⟨2, ![10000, 1]⟩
abbrev S5x8x128 : Shape := ⟨3, ![5, 8, 128]⟩
abbrev S8x2000x128 : Shape := ⟨3, ![8, 2000, 128]⟩
abbrev S2000x1 : Shape := ⟨2, ![2000, 1]⟩
abbrev S1x8x128 : Shape := ⟨3, ![1, 8, 128]⟩
abbrev S2000x128 : Shape := ⟨2, ![2000, 128]⟩
abbrev S128x384 : Shape := ⟨2, ![128, 384]⟩
abbrev S128x256 : Shape := ⟨2, ![128, 256]⟩
abbrev S1x2000 : Shape := ⟨2, ![1, 2000]⟩
abbrev S1x2000x128 : Shape := ⟨3, ![1, 2000, 128]⟩
abbrev S2000x384 : Shape := ⟨2, ![2000, 384]⟩
abbrev S1x128 : Shape := ⟨2, ![1, 128]⟩
abbrev S1x1x128 : Shape := ⟨3, ![1, 1, 128]⟩
abbrev S2000x256 : Shape := ⟨2, ![2000, 256]⟩
abbrev S_ : Shape := ⟨0, ![]⟩
abbrev S8x128 : Shape := ⟨2, ![8, 128]⟩
abbrev S8x1 : Shape := ⟨2, ![8, 1]⟩
abbrev S8 : Shape := ⟨1, ![8]⟩

abbrev nBuf : Space → Nat
  | .hbm => 26
  | .vmem => 15
  | .smem => 0
  | _ => 0

abbrev bufTy : (tb : Table) → Fin (tcTables nBuf tb) → BufTy
  | .hbm, ⟨0, _⟩ => ⟨S8x10000x128, .f32⟩
  | .hbm, ⟨1, _⟩ => ⟨S2x320000, .i32⟩
  | .hbm, ⟨2, _⟩ => ⟨S320000, .f32⟩
  | .hbm, ⟨3, _⟩ => ⟨S10000x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x1, .f32⟩
  | .hbm, ⟨17, _⟩ => ⟨S1, .f32⟩
  | .hbm, ⟨18, _⟩ => ⟨S10000x1, .f32⟩
  | .hbm, ⟨19, _⟩ => ⟨S1, .f32⟩
  | .hbm, ⟨20, _⟩ => ⟨S5x8x128, .f32⟩
  | .hbm, ⟨21, _⟩ => ⟨S10000x128, .f32⟩
  | .hbm, ⟨22, _⟩ => ⟨S_, .f32⟩
  | .hbm, ⟨23, _⟩ => ⟨S8x128, .f32⟩
  | .hbm, ⟨24, _⟩ => ⟨S8x1, .f32⟩
  | .hbm, ⟨25, _⟩ => ⟨S8, .f32⟩
  | .local _ .vmem, ⟨0, _⟩ => ⟨S8x2000x128, .f32⟩
  | .local _ .vmem, ⟨1, _⟩ => ⟨S8x2000x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x1, .f32⟩
  | .local _ .vmem, ⟨9, _⟩ => ⟨S2000x1, .f32⟩
  | .local _ .vmem, ⟨10, _⟩ => ⟨S2000x1, .f32⟩
  | .local _ .vmem, ⟨11, _⟩ => ⟨S1x8x128, .f32⟩
  | .local _ .vmem, ⟨12, _⟩ => ⟨S1x8x128, .f32⟩
  | .local _ .vmem, ⟨13, _⟩ => ⟨S2000x128, .f32⟩
  | .local _ .vmem, ⟨14, _⟩ => ⟨S2000x128, .f32⟩
  | _, _ => ⟨S8x10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0_0 : Ref sig .tc := ⟨.hbm, 20, rfl⟩
abbrev main_v0_1 : Ref sig .tc := ⟨.hbm, 21, rfl⟩
abbrev main_cst : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![5], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2000x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S8x10000x128 : Shape := ⟨3, ![8, 10000, 128]⟩
abbrev S2x320000 : Shape := ⟨2, ![2, 320000]⟩
abbrev S320000 : Shape := ⟨1, ![320000]⟩
abbrev S10000x128 : Shape := ⟨2, ![10000, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S10000x1 : Shape := ⟨2, ![10000, 1]⟩
abbrev S1x10000x128 : Shape := ⟨3, ![1, 10000, 128]⟩
abbrev S1x128 : Shape := ⟨2, ![1, 128]⟩
abbrev S_ : Shape := ⟨0, ![]⟩
abbrev S8x10000x1 : Shape := ⟨3, ![8, 10000, 1]⟩
abbrev S1x1x1 : Shape := ⟨3, ![1, 1, 1]⟩
abbrev S8x10000 : Shape := ⟨2, ![8, 10000]⟩
abbrev S8x1 : Shape := ⟨2, ![8, 1]⟩
abbrev S1x1 : Shape := ⟨2, ![1, 1]⟩
abbrev S8 : Shape := ⟨1, ![8]⟩

abbrev nBuf : Space → Nat
  | .hbm => 479
  | .vmem => 0
  | .smem => 0
  | _ => 0

abbrev hbmTy0_0 (i : Nat) : BufTy := match i % 128 with
  | 0 => ⟨S8x10000x128, .f32⟩
  | 1 => ⟨S2x320000, .i32⟩
  | 2 => ⟨S320000, .f32⟩
  | 3 => ⟨S10000x128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128x128, .f32⟩
  | 15 => ⟨S128, .f32⟩
  | 16 => ⟨S128x1, .f32⟩
  | 17 => ⟨S1, .f32⟩
  | 18 => ⟨S10000x1, .f32⟩
  | 19 => ⟨S1, .f32⟩
  | 20 => ⟨S1x10000x128, .f32⟩
  | 21 => ⟨S10000x128, .f32⟩
  | 22 => ⟨S10000x128, .f32⟩
  | 23 => ⟨S1x128, .f32⟩
  | 24 => ⟨S10000x128, .f32⟩
  | 25 => ⟨S10000x128, .f32⟩
  | 26 => ⟨S10000x128, .f32⟩
  | 27 => ⟨S1x128, .f32⟩
  | 28 => ⟨S10000x128, .f32⟩
  | 29 => ⟨S10000x128, .f32⟩
  | 30 => ⟨S10000x128, .f32⟩
  | 31 => ⟨S10000x128, .f32⟩
  | 32 => ⟨S10000x128, .f32⟩
  | 33 => ⟨S_, .f32⟩
  | 34 => ⟨S10000x128, .f32⟩
  | 35 => ⟨S10000x128, .f32⟩
  | 36 => ⟨S_, .f32⟩
  | 37 => ⟨S10000x128, .f32⟩
  | 38 => ⟨S10000x128, .f32⟩
  | 39 => ⟨S10000x128, .f32⟩
  | 40 => ⟨S1x128, .f32⟩
  | 41 => ⟨S10000x128, .f32⟩
  | 42 => ⟨S10000x128, .f32⟩
  | 43 => ⟨S10000x128, .f32⟩
  | 44 => ⟨S1x128, .f32⟩
  | 45 => ⟨S10000x128, .f32⟩
  | 46 => ⟨S10000x128, .f32⟩
  | 47 => ⟨S10000x128, .f32⟩
  | 48 => ⟨S10000x128, .f32⟩
  | 49 => ⟨S10000x128, .f32⟩
  | 50 => ⟨S_, .f32⟩
  | 51 => ⟨S10000x128, .f32⟩
  | 52 => ⟨S10000x128, .f32⟩
  | 53 => ⟨S_, .f32⟩
  | 54 => ⟨S10000x128, .f32⟩
  | 55 => ⟨S10000x128, .f32⟩
  | 56 => ⟨S10000x128, .f32⟩
  | 57 => ⟨S1x128, .f32⟩
  | 58 => ⟨S10000x128, .f32⟩
  | 59 => ⟨S10000x128, .f32⟩
  | 60 => ⟨S10000x128, .f32⟩
  | 61 => ⟨S10000x128, .f32⟩
  | 62 => ⟨S1x128, .f32⟩
  | 63 => ⟨S10000x128, .f32⟩
  | 64 => ⟨S10000x128, .f32⟩
  | 65 => ⟨S10000x128, .f32⟩
  | 66 => ⟨S10000x128, .f32⟩
  | 67 => ⟨S10000x128, .f32⟩
  | 68 => ⟨S_, .f32⟩
  | 69 => ⟨S10000x128, .f32⟩
  | 70 => ⟨S10000x128, .f32⟩
  | 71 => ⟨S10000x128, .f32⟩
  | 72 => ⟨S10000x128, .f32⟩
  | 73 => ⟨S1x10000x128, .f32⟩
  | 74 => ⟨S1x10000x128, .f32⟩
  | 75 => ⟨S10000x128, .f32⟩
  | 76 => ⟨S10000x128, .f32⟩
  | 77 => ⟨S1x128, .f32⟩
  | 78 => ⟨S10000x128, .f32⟩
  | 79 => ⟨S10000x128, .f32⟩
  | 80 => ⟨S10000x128, .f32⟩
  | 81 => ⟨S1x128, .f32⟩
  | 82 => ⟨S10000x128, .f32⟩
  | 83 => ⟨S10000x128, .f32⟩
  | 84 => ⟨S10000x128, .f32⟩
  | 85 => ⟨S10000x128, .f32⟩
  | 86 => ⟨S10000x128, .f32⟩
  | 87 => ⟨S_, .f32⟩
  | 88 => ⟨S10000x128, .f32⟩
  | 89 => ⟨S10000x128, .f32⟩
  | 90 => ⟨S_, .f32⟩
  | 91 => ⟨S10000x128, .f32⟩
  | 92 => ⟨S10000x128, .f32⟩
  | 93 => ⟨S10000x128, .f32⟩
  | 94 => ⟨S1x128, .f32⟩
  | 95 => ⟨S10000x128, .f32⟩
  | 96 => ⟨S10000x128, .f32⟩
  | 97 => ⟨S10000x128, .f32⟩
  | 98 => ⟨S1x128, .f32⟩
  | 99 => ⟨S10000x128, .f32⟩
  | 100 => ⟨S10000x128, .f32⟩
  | 101 => ⟨S10000x128, .f32⟩
  | 102 => ⟨S10000x128, .f32⟩
  | 103 => ⟨S10000x128, .f32⟩
  | 104 => ⟨S_, .f32⟩
  | 105 => ⟨S10000x128, .f32⟩
  | 106 => ⟨S10000x128, .f32⟩
  | 107 => ⟨S_, .f32⟩
  | 108 => ⟨S10000x128, .f32⟩
  | 109 => ⟨S10000x128, .f32⟩
  | 110 => ⟨S10000x128, .f32⟩
  | 111 => ⟨S1x128, .f32⟩
  | 112 => ⟨S10000x128, .f32⟩
  | 113 => ⟨S10000x128, .f32⟩
  | 114 => ⟨S10000x128, .f32⟩
  | 115 => ⟨S10000x128, .f32⟩
  | 116 => ⟨S1x128, .f32⟩
  | 117 => ⟨S10000x128, .f32⟩
  | 118 => ⟨S10000x128, .f32⟩
  | 119 => ⟨S10000x128, .f32⟩
  | 120 => ⟨S10000x128, .f32⟩
  | 121 => ⟨S10000x128, .f32⟩
  | 122 => ⟨S_, .f32⟩
  | 123 => ⟨S10000x128, .f32⟩
  | 124 => ⟨S10000x128, .f32⟩
  | 125 => ⟨S10000x128, .f32⟩
  | 126 => ⟨S10000x128, .f32⟩
  | 127 => ⟨S1x10000x128, .f32⟩
  | _ => ⟨S8x10000x128, .f32⟩

abbrev hbmTy0_1 (i : Nat) : BufTy := match i % 128 with
  | 0 => ⟨S1x10000x128, .f32⟩
  | 1 => ⟨S10000x128, .f32⟩
  | 2 => ⟨S10000x128, .f32⟩
  | 3 => ⟨S1x128, .f32⟩
  | 4 => ⟨S10000x128, .f32⟩
  | 5 => ⟨S10000x128, .f32⟩
  | 6 => ⟨S10000x128, .f32⟩
  | 7 => ⟨S1x128, .f32⟩
  | 8 => ⟨S10000x128, .f32⟩
  | 9 => ⟨S10000x128, .f32⟩
  | 10 => ⟨S10000x128, .f32⟩
  | 11 => ⟨S10000x128, .f32⟩
  | 12 => ⟨S10000x128, .f32⟩
  | 13 => ⟨S_, .f32⟩
  | 14 => ⟨S10000x128, .f32⟩
  | 15 => ⟨S10000x128, .f32⟩
  | 16 => ⟨S_, .f32⟩
  | 17 => ⟨S10000x128, .f32⟩
  | 18 => ⟨S10000x128, .f32⟩
  | 19 => ⟨S10000x128, .f32⟩
  | 20 => ⟨S1x128, .f32⟩
  | 21 => ⟨S10000x128, .f32⟩
  | 22 => ⟨S10000x128, .f32⟩
  | 23 => ⟨S10000x128, .f32⟩
  | 24 => ⟨S1x128, .f32⟩
  | 25 => ⟨S10000x128, .f32⟩
  | 26 => ⟨S10000x128, .f32⟩
  | 27 => ⟨S10000x128, .f32⟩
  | 28 => ⟨S10000x128, .f32⟩
  | 29 => ⟨S10000x128, .f32⟩
  | 30 => ⟨S_, .f32⟩
  | 31 => ⟨S10000x128, .f32⟩
  | 32 => ⟨S10000x128, .f32⟩
  | 33 => ⟨S_, .f32⟩
  | 34 => ⟨S10000x128, .f32⟩
  | 35 => ⟨S10000x128, .f32⟩
  | 36 => ⟨S10000x128, .f32⟩
  | 37 => ⟨S1x128, .f32⟩
  | 38 => ⟨S10000x128, .f32⟩
  | 39 => ⟨S10000x128, .f32⟩
  | 40 => ⟨S10000x128, .f32⟩
  | 41 => ⟨S10000x128, .f32⟩
  | 42 => ⟨S1x128, .f32⟩
  | 43 => ⟨S10000x128, .f32⟩
  | 44 => ⟨S10000x128, .f32⟩
  | 45 => ⟨S10000x128, .f32⟩
  | 46 => ⟨S10000x128, .f32⟩
  | 47 => ⟨S10000x128, .f32⟩
  | 48 => ⟨S_, .f32⟩
  | 49 => ⟨S10000x128, .f32⟩
  | 50 => ⟨S10000x128, .f32⟩
  | 51 => ⟨S10000x128, .f32⟩
  | 52 => ⟨S10000x128, .f32⟩
  | 53 => ⟨S1x10000x128, .f32⟩
  | 54 => ⟨S1x10000x128, .f32⟩
  | 55 => ⟨S10000x128, .f32⟩
  | 56 => ⟨S10000x128, .f32⟩
  | 57 => ⟨S1x128, .f32⟩
  | 58 => ⟨S10000x128, .f32⟩
  | 59 => ⟨S10000x128, .f32⟩
  | 60 => ⟨S10000x128, .f32⟩
  | 61 => ⟨S1x128, .f32⟩
  | 62 => ⟨S10000x128, .f32⟩
  | 63 => ⟨S10000x128, .f32⟩
  | 64 => ⟨S10000x128, .f32⟩
  | 65 => ⟨S10000x128, .f32⟩
  | 66 => ⟨S10000x128, .f32⟩
  | 67 => ⟨S_, .f32⟩
  | 68 => ⟨S10000x128, .f32⟩
  | 69 => ⟨S10000x128, .f32⟩
  | 70 => ⟨S_, .f32⟩
  | 71 => ⟨S10000x128, .f32⟩
  | 72 => ⟨S10000x128, .f32⟩
  | 73 => ⟨S10000x128, .f32⟩
  | 74 => ⟨S1x128, .f32⟩
  | 75 => ⟨S10000x128, .f32⟩
  | 76 => ⟨S10000x128, .f32⟩
  | 77 => ⟨S10000x128, .f32⟩
  | 78 => ⟨S1x128, .f32⟩
  | 79 => ⟨S10000x128, .f32⟩
  | 80 => ⟨S10000x128, .f32⟩
  | 81 => ⟨S10000x128, .f32⟩
  | 82 => ⟨S10000x128, .f32⟩
  | 83 => ⟨S10000x128, .f32⟩
  | 84 => ⟨S_, .f32⟩
  | 85 => ⟨S10000x128, .f32⟩
  | 86 => ⟨S10000x128, .f32⟩
  | 87 => ⟨S_, .f32⟩
  | 88 => ⟨S10000x128, .f32⟩
  | 89 => ⟨S10000x128, .f32⟩
  | 90 => ⟨S10000x128, .f32⟩
  | 91 => ⟨S1x128, .f32⟩
  | 92 => ⟨S10000x128, .f32⟩
  | 93 => ⟨S10000x128, .f32⟩
  | 94 => ⟨S10000x128, .f32⟩
  | 95 => ⟨S10000x128, .f32⟩
  | 96 => ⟨S1x128, .f32⟩
  | 97 => ⟨S10000x128, .f32⟩
  | 98 => ⟨S10000x128, .f32⟩
  | 99 => ⟨S10000x128, .f32⟩
  | 100 => ⟨S10000x128, .f32⟩
  | 101 => ⟨S10000x128, .f32⟩
  | 102 => ⟨S_, .f32⟩
  | 103 => ⟨S10000x128, .f32⟩
  | 104 => ⟨S10000x128, .f32⟩
  | 105 => ⟨S10000x128, .f32⟩
  | 106 => ⟨S10000x128, .f32⟩
  | 107 => ⟨S1x10000x128, .f32⟩
  | 108 => ⟨S1x10000x128, .f32⟩
  | 109 => ⟨S10000x128, .f32⟩
  | 110 => ⟨S10000x128, .f32⟩
  | 111 => ⟨S1x128, .f32⟩
  | 112 => ⟨S10000x128, .f32⟩
  | 113 => ⟨S10000x128, .f32⟩
  | 114 => ⟨S10000x128, .f32⟩
  | 115 => ⟨S1x128, .f32⟩
  | 116 => ⟨S10000x128, .f32⟩
  | 117 => ⟨S10000x128, .f32⟩
  | 118 => ⟨S10000x128, .f32⟩
  | 119 => ⟨S10000x128, .f32⟩
  | 120 => ⟨S10000x128, .f32⟩
  | 121 => ⟨S_, .f32⟩
  | 122 => ⟨S10000x128, .f32⟩
  | 123 => ⟨S10000x128, .f32⟩
  | 124 => ⟨S_, .f32⟩
  | 125 => ⟨S10000x128, .f32⟩
  | 126 => ⟨S10000x128, .f32⟩
  | 127 => ⟨S10000x128, .f32⟩
  | _ => ⟨S8x10000x128, .f32⟩

abbrev hbmTy0_2 (i : Nat) : BufTy := match i % 128 with
  | 0 => ⟨S1x128, .f32⟩
  | 1 => ⟨S10000x128, .f32⟩
  | 2 => ⟨S10000x128, .f32⟩
  | 3 => ⟨S10000x128, .f32⟩
  | 4 => ⟨S1x128, .f32⟩
  | 5 => ⟨S10000x128, .f32⟩
  | 6 => ⟨S10000x128, .f32⟩
  | 7 => ⟨S10000x128, .f32⟩
  | 8 => ⟨S10000x128, .f32⟩
  | 9 => ⟨S10000x128, .f32⟩
  | 10 => ⟨S_, .f32⟩
  | 11 => ⟨S10000x128, .f32⟩
  | 12 => ⟨S10000x128, .f32⟩
  | 13 => ⟨S_, .f32⟩
  | 14 => ⟨S10000x128, .f32⟩
  | 15 => ⟨S10000x128, .f32⟩
  | 16 => ⟨S10000x128, .f32⟩
  | 17 => ⟨S1x128, .f32⟩
  | 18 => ⟨S10000x128, .f32⟩
  | 19 => ⟨S10000x128, .f32⟩
  | 20 => ⟨S10000x128, .f32⟩
  | 21 => ⟨S10000x128, .f32⟩
  | 22 => ⟨S1x128, .f32⟩
  | 23 => ⟨S10000x128, .f32⟩
  | 24 => ⟨S10000x128, .f32⟩
  | 25 => ⟨S10000x128, .f32⟩
  | 26 => ⟨S10000x128, .f32⟩
  | 27 => ⟨S10000x128, .f32⟩
  | 28 => ⟨S_, .f32⟩
  | 29 => ⟨S10000x128, .f32⟩
  | 30 => ⟨S10000x128, .f32⟩
  | 31 => ⟨S10000x128, .f32⟩
  | 32 => ⟨S10000x128, .f32⟩
  | 33 => ⟨S1x10000x128, .f32⟩
  | 34 => ⟨S1x10000x128, .f32⟩
  | 35 => ⟨S10000x128, .f32⟩
  | 36 => ⟨S10000x128, .f32⟩
  | 37 => ⟨S1x128, .f32⟩
  | 38 => ⟨S10000x128, .f32⟩
  | 39 => ⟨S10000x128, .f32⟩
  | 40 => ⟨S10000x128, .f32⟩
  | 41 => ⟨S1x128, .f32⟩
  | 42 => ⟨S10000x128, .f32⟩
  | 43 => ⟨S10000x128, .f32⟩
  | 44 => ⟨S10000x128, .f32⟩
  | 45 => ⟨S10000x128, .f32⟩
  | 46 => ⟨S10000x128, .f32⟩
  | 47 => ⟨S_, .f32⟩
  | 48 => ⟨S10000x128, .f32⟩
  | 49 => ⟨S10000x128, .f32⟩
  | 50 => ⟨S_, .f32⟩
  | 51 => ⟨S10000x128, .f32⟩
  | 52 => ⟨S10000x128, .f32⟩
  | 53 => ⟨S10000x128, .f32⟩
  | 54 => ⟨S1x128, .f32⟩
  | 55 => ⟨S10000x128, .f32⟩
  | 56 => ⟨S10000x128, .f32⟩
  | 57 => ⟨S10000x128, .f32⟩
  | 58 => ⟨S1x128, .f32⟩
  | 59 => ⟨S10000x128, .f32⟩
  | 60 => ⟨S10000x128, .f32⟩
  | 61 => ⟨S10000x128, .f32⟩
  | 62 => ⟨S10000x128, .f32⟩
  | 63 => ⟨S10000x128, .f32⟩
  | 64 => ⟨S_, .f32⟩
  | 65 => ⟨S10000x128, .f32⟩
  | 66 => ⟨S10000x128, .f32⟩
  | 67 => ⟨S_, .f32⟩
  | 68 => ⟨S10000x128, .f32⟩
  | 69 => ⟨S10000x128, .f32⟩
  | 70 => ⟨S10000x128, .f32⟩
  | 71 => ⟨S1x128, .f32⟩
  | 72 => ⟨S10000x128, .f32⟩
  | 73 => ⟨S10000x128, .f32⟩
  | 74 => ⟨S10000x128, .f32⟩
  | 75 => ⟨S10000x128, .f32⟩
  | 76 => ⟨S1x128, .f32⟩
  | 77 => ⟨S10000x128, .f32⟩
  | 78 => ⟨S10000x128, .f32⟩
  | 79 => ⟨S10000x128, .f32⟩
  | 80 => ⟨S10000x128, .f32⟩
  | 81 => ⟨S10000x128, .f32⟩
  | 82 => ⟨S_, .f32⟩
  | 83 => ⟨S10000x128, .f32⟩
  | 84 => ⟨S10000x128, .f32⟩
  | 85 => ⟨S10000x128, .f32⟩
  | 86 => ⟨S10000x128, .f32⟩
  | 87 => ⟨S1x10000x128, .f32⟩
  | 88 => ⟨S1x10000x128, .f32⟩
  | 89 => ⟨S10000x128, .f32⟩
  | 90 => ⟨S10000x128, .f32⟩
  | 91 => ⟨S1x128, .f32⟩
  | 92 => ⟨S10000x128, .f32⟩
  | 93 => ⟨S10000x128, .f32⟩
  | 94 => ⟨S10000x128, .f32⟩
  | 95 => ⟨S1x128, .f32⟩
  | 96 => ⟨S10000x128, .f32⟩
  | 97 => ⟨S10000x128, .f32⟩
  | 98 => ⟨S10000x128, .f32⟩
  | 99 => ⟨S10000x128, .f32⟩
  | 100 => ⟨S10000x128, .f32⟩
  | 101 => ⟨S_, .f32⟩
  | 102 => ⟨S10000x128, .f32⟩
  | 103 => ⟨S10000x128, .f32⟩
  | 104 => ⟨S_, .f32⟩
  | 105 => ⟨S10000x128, .f32⟩
  | 106 => ⟨S10000x128, .f32⟩
  | 107 => ⟨S10000x128, .f32⟩
  | 108 => ⟨S1x128, .f32⟩
  | 109 => ⟨S10000x128, .f32⟩
  | 110 => ⟨S10000x128, .f32⟩
  | 111 => ⟨S10000x128, .f32⟩
  | 112 => ⟨S1x128, .f32⟩
  | 113 => ⟨S10000x128, .f32⟩
  | 114 => ⟨S10000x128, .f32⟩
  | 115 => ⟨S10000x128, .f32⟩
  | 116 => ⟨S10000x128, .f32⟩
  | 117 => ⟨S10000x128, .f32⟩
  | 118 => ⟨S_, .f32⟩
  | 119 => ⟨S10000x128, .f32⟩
  | 120 => ⟨S10000x128, .f32⟩
  | 121 => ⟨S_, .f32⟩
  | 122 => ⟨S10000x128, .f32⟩
  | 123 => ⟨S10000x128, .f32⟩
  | 124 => ⟨S10000x128, .f32⟩
  | 125 => ⟨S1x128, .f32⟩
  | 126 => ⟨S10000x128, .f32⟩
  | 127 => ⟨S10000x128, .f32⟩
  | _ => ⟨S8x10000x128, .f32⟩

abbrev hbmTy0_3 (i : Nat) : BufTy := match i % 128 with
  | 0 => ⟨S10000x128, .f32⟩
  | 1 => ⟨S10000x128, .f32⟩
  | 2 => ⟨S1x128, .f32⟩
  | 3 => ⟨S10000x128, .f32⟩
  | 4 => ⟨S10000x128, .f32⟩
  | 5 => ⟨S10000x128, .f32⟩
  | 6 => ⟨S10000x128, .f32⟩
  | 7 => ⟨S10000x128, .f32⟩
  | 8 => ⟨S_, .f32⟩
  | 9 => ⟨S10000x128, .f32⟩
  | 10 => ⟨S10000x128, .f32⟩
  | 11 => ⟨S10000x128, .f32⟩
  | 12 => ⟨S10000x128, .f32⟩
  | 13 => ⟨S1x10000x128, .f32⟩
  | 14 => ⟨S1x10000x128, .f32⟩
  | 15 => ⟨S10000x128, .f32⟩
  | 16 => ⟨S10000x128, .f32⟩
  | 17 => ⟨S1x128, .f32⟩
  | 18 => ⟨S10000x128, .f32⟩
  | 19 => ⟨S10000x128, .f32⟩
  | 20 => ⟨S10000x128, .f32⟩
  | 21 => ⟨S1x128, .f32⟩
  | 22 => ⟨S10000x128, .f32⟩
  | 23 => ⟨S10000x128, .f32⟩
  | 24 => ⟨S10000x128, .f32⟩
  | 25 => ⟨S10000x128, .f32⟩
  | 26 => ⟨S10000x128, .f32⟩
  | 27 => ⟨S_, .f32⟩
  | 28 => ⟨S10000x128, .f32⟩
  | 29 => ⟨S10000x128, .f32⟩
  | 30 => ⟨S_, .f32⟩
  | 31 => ⟨S10000x128, .f32⟩
  | 32 => ⟨S10000x128, .f32⟩
  | 33 => ⟨S10000x128, .f32⟩
  | 34 => ⟨S1x128, .f32⟩
  | 35 => ⟨S10000x128, .f32⟩
  | 36 => ⟨S10000x128, .f32⟩
  | 37 => ⟨S10000x128, .f32⟩
  | 38 => ⟨S1x128, .f32⟩
  | 39 => ⟨S10000x128, .f32⟩
  | 40 => ⟨S10000x128, .f32⟩
  | 41 => ⟨S10000x128, .f32⟩
  | 42 => ⟨S10000x128, .f32⟩
  | 43 => ⟨S10000x128, .f32⟩
  | 44 => ⟨S_, .f32⟩
  | 45 => ⟨S10000x128, .f32⟩
  | 46 => ⟨S10000x128, .f32⟩
  | 47 => ⟨S_, .f32⟩
  | 48 => ⟨S10000x128, .f32⟩
  | 49 => ⟨S10000x128, .f32⟩
  | 50 => ⟨S10000x128, .f32⟩
  | 51 => ⟨S1x128, .f32⟩
  | 52 => ⟨S10000x128, .f32⟩
  | 53 => ⟨S10000x128, .f32⟩
  | 54 => ⟨S10000x128, .f32⟩
  | 55 => ⟨S10000x128, .f32⟩
  | 56 => ⟨S1x128, .f32⟩
  | 57 => ⟨S10000x128, .f32⟩
  | 58 => ⟨S10000x128, .f32⟩
  | 59 => ⟨S10000x128, .f32⟩
  | 60 => ⟨S10000x128, .f32⟩
  | 61 => ⟨S10000x128, .f32⟩
  | 62 => ⟨S_, .f32⟩
  | 63 => ⟨S10000x128, .f32⟩
  | 64 => ⟨S10000x128, .f32⟩
  | 65 => ⟨S10000x128, .f32⟩
  | 66 => ⟨S10000x128, .f32⟩
  | 67 => ⟨S1x10000x128, .f32⟩
  | 68 => ⟨S8x10000x128, .f32⟩
  | 69 => ⟨S_, .f32⟩
  | 70 => ⟨S_, .f32⟩
  | 71 => ⟨S8x10000x128, .f32⟩
  | 72 => ⟨S8x10000x128, .i1⟩
  | 73 => ⟨S_, .f32⟩
  | 74 => ⟨S8x10000x128, .f32⟩
  | 75 => ⟨S8x10000x128, .f32⟩
  | 76 => ⟨S8x10000x128, .f32⟩
  | 77 => ⟨S8x10000x1, .f32⟩
  | 78 => ⟨S1x1x1, .f32⟩
  | 79 => ⟨S8x10000x1, .f32⟩
  | 80 => ⟨S8x10000x1, .f32⟩
  | 81 => ⟨S_, .f32⟩
  | 82 => ⟨S_, .f32⟩
  | 83 => ⟨S8x10000x1, .f32⟩
  | 84 => ⟨S8x10000x1, .i1⟩
  | 85 => ⟨S_, .f32⟩
  | 86 => ⟨S8x10000x1, .f32⟩
  | 87 => ⟨S8x10000x1, .f32⟩
  | 88 => ⟨S8x10000x1, .f32⟩
  | 89 => ⟨S8x10000, .f32⟩
  | 90 => ⟨S8x1, .f32⟩
  | 91 => ⟨S1x1, .f32⟩
  | 92 => ⟨S8x1, .f32⟩
  | 93 => ⟨S8x1, .f32⟩
  | 94 => ⟨S8, .f32⟩
  | _ => ⟨S8x10000x128, .f32⟩

abbrev hbmTy (i : Nat) : BufTy := match i / 128 with
  | 0 => hbmTy0_0 i
  | 1 => hbmTy0_1 i
  | 2 => hbmTy0_2 i
  | 3 => hbmTy0_3 i
  | _ => ⟨S8x10000x128, .f32⟩

abbrev bufTy : (tb : Table) → Fin (tcTables nBuf tb) → BufTy
  | .hbm, ⟨i, _⟩ => hbmTy i
  | _, _ => ⟨S8x10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst : Ref sig .tc := ⟨.hbm, 33, rfl⟩
abbrev main_v13 : Ref sig .tc := ⟨.hbm, 34, rfl⟩
abbrev main_v14 : Ref sig .tc := ⟨.hbm, 35, rfl⟩
abbrev main_cst_0 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_1 : Ref sig .tc := ⟨.hbm, 50, rfl⟩
abbrev main_v28 : Ref sig .tc := ⟨.hbm, 51, rfl⟩
abbrev main_v29 : Ref sig .tc := ⟨.hbm, 52, rfl⟩
abbrev main_cst_2 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_3 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_4 : Ref sig .tc := ⟨.hbm, 87, rfl⟩
abbrev main_v62 : Ref sig .tc := ⟨.hbm, 88, rfl⟩
abbrev main_v63 : Ref sig .tc := ⟨.hbm, 89, rfl⟩
abbrev main_cst_5 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_6 : Ref sig .tc := ⟨.hbm, 104, rfl⟩
abbrev main_v77 : Ref sig .tc := ⟨.hbm, 105, rfl⟩
abbrev main_v78 : Ref sig .tc := ⟨.hbm, 106, rfl⟩
abbrev main_cst_7 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_cst_8 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_cst_9 : Ref sig .tc := ⟨.hbm, 141, rfl⟩
abbrev main_v111 : Ref sig .tc := ⟨.hbm, 142, rfl⟩
abbrev main_v112 : Ref sig .tc := ⟨.hbm, 143, rfl⟩
abbrev main_cst_10 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_cst_11 : Ref sig .tc := ⟨.hbm, 158, rfl⟩
abbrev main_v126 : Ref sig .tc := ⟨.hbm, 159, rfl⟩
abbrev main_v127 : Ref sig .tc := ⟨.hbm, 160, rfl⟩
abbrev main_cst_12 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_cst_13 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_cst_14 : Ref sig .tc := ⟨.hbm, 195, rfl⟩
abbrev main_v160 : Ref sig .tc := ⟨.hbm, 196, rfl⟩
abbrev main_v161 : Ref sig .tc := ⟨.hbm, 197, rfl⟩
abbrev main_cst_15 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_cst_16 : Ref sig .tc := ⟨.hbm, 212, rfl⟩
abbrev main_v175 : Ref sig .tc := ⟨.hbm, 213, rfl⟩
abbrev main_v176 : Ref sig .tc := ⟨.hbm, 214, rfl⟩
abbrev main_cst_17 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_v183 : Ref sig .tc := ⟨.hbm, 222, rfl⟩
abbrev main_v184 : Ref sig .tc := ⟨.hbm, 223, rfl⟩
abbrev main_v185 : Ref sig .tc := ⟨.hbm, 224, rfl⟩
abbrev main_v186 : Ref sig .tc := ⟨.hbm, 225, rfl⟩
abbrev main_v187 : Ref sig .tc := ⟨.hbm, 226, rfl⟩
abbrev main_v188 : Ref sig .tc := ⟨.hbm, 227, rfl⟩
abbrev main_v189 : Ref sig .tc := ⟨.hbm, 228, rfl⟩
abbrev main_v190 : Ref sig .tc := ⟨.hbm, 229, rfl⟩
abbrev main_cst_18 : Ref sig .tc := ⟨.hbm, 230, rfl⟩
abbrev main_v191 : Ref sig .tc := ⟨.hbm, 231, rfl⟩
abbrev main_v192 : Ref sig .tc := ⟨.hbm, 232, rfl⟩
abbrev main_v193 : Ref sig .tc := ⟨.hbm, 233, rfl⟩
abbrev main_v194 : Ref sig .tc := ⟨.hbm, 234, rfl⟩
abbrev main_v195 : Ref sig .tc := ⟨.hbm, 235, rfl⟩
abbrev main_v196 : Ref sig .tc := ⟨.hbm, 236, rfl⟩
abbrev main_v197 : Ref sig .tc := ⟨.hbm, 237, rfl⟩
abbrev main_v198 : Ref sig .tc := ⟨.hbm, 238, rfl⟩
abbrev main_v199 : Ref sig .tc := ⟨.hbm, 239, rfl⟩
abbrev main_v200 : Ref sig .tc := ⟨.hbm, 240, rfl⟩
abbrev main_v201 : Ref sig .tc := ⟨.hbm, 241, rfl⟩
abbrev main_v202 : Ref sig .tc := ⟨.hbm, 242, rfl⟩
abbrev main_v203 : Ref sig .tc := ⟨.hbm, 243, rfl⟩
abbrev main_v204 : Ref sig .tc := ⟨.hbm, 244, rfl⟩
abbrev main_v205 : Ref sig .tc := ⟨.hbm, 245, rfl⟩
abbrev main_v206 : Ref sig .tc := ⟨.hbm, 246, rfl⟩
abbrev main_v207 : Ref sig .tc := ⟨.hbm, 247, rfl⟩
abbrev main_v208 : Ref sig .tc := ⟨.hbm, 248, rfl⟩
abbrev main_cst_19 : Ref sig .tc := ⟨.hbm, 249, rfl⟩
abbrev main_v209 : Ref sig .tc := ⟨.hbm, 250, rfl⟩
abbrev main_v210 : Ref sig .tc := ⟨.hbm, 251, rfl⟩
abbrev main_cst_20 : Ref sig .tc := ⟨.hbm, 252, rfl⟩
abbrev main_v211 : Ref sig .tc := ⟨.hbm, 253, rfl⟩
abbrev main_v212 : Ref sig .tc := ⟨.hbm, 254, rfl⟩
abbrev main_v213 : Ref sig .tc := ⟨.hbm, 255, rfl⟩
abbrev main_v214 : Ref sig .tc := ⟨.hbm, 256, rfl⟩
abbrev main_v215 : Ref sig .tc := ⟨.hbm, 257, rfl⟩
abbrev main_v216 : Ref sig .tc := ⟨.hbm, 258, rfl⟩
abbrev main_v217 : Ref sig .tc := ⟨.hbm, 259, rfl⟩
abbrev main_v218 : Ref sig .tc := ⟨.hbm, 260, rfl⟩
abbrev main_v219 : Ref sig .tc := ⟨.hbm, 261, rfl⟩
abbrev main_v220 : Ref sig .tc := ⟨.hbm, 262, rfl⟩
abbrev main_v221 : Ref sig .tc := ⟨.hbm, 263, rfl⟩
abbrev main_v222 : Ref sig .tc := ⟨.hbm, 264, rfl⟩
abbrev main_v223 : Ref sig .tc := ⟨.hbm, 265, rfl⟩
abbrev main_cst_21 : Ref sig .tc := ⟨.hbm, 266, rfl⟩
abbrev main_v224 : Ref sig .tc := ⟨.hbm, 267, rfl⟩
abbrev main_v225 : Ref sig .tc := ⟨.hbm, 268, rfl⟩
abbrev main_cst_22 : Ref sig .tc := ⟨.hbm, 269, rfl⟩
abbrev main_v226 : Ref sig .tc := ⟨.hbm, 270, rfl⟩
abbrev main_v227 : Ref sig .tc := ⟨.hbm, 271, rfl⟩
abbrev main_v228 : Ref sig .tc := ⟨.hbm, 272, rfl⟩
abbrev main_v229 : Ref sig .tc := ⟨.hbm, 273, rfl⟩
abbrev main_v230 : Ref sig .tc := ⟨.hbm, 274, rfl⟩
abbrev main_v231 : Ref sig .tc := ⟨.hbm, 275, rfl⟩
abbrev main_v232 : Ref sig .tc := ⟨.hbm, 276, rfl⟩
abbrev main_v233 : Ref sig .tc := ⟨.hbm, 277, rfl⟩
abbrev main_v234 : Ref sig .tc := ⟨.hbm, 278, rfl⟩
abbrev main_v235 : Ref sig .tc := ⟨.hbm, 279, rfl⟩
abbrev main_v236 : Ref sig .tc := ⟨.hbm, 280, rfl⟩
abbrev main_v237 : Ref sig .tc := ⟨.hbm, 281, rfl⟩
abbrev main_v238 : Ref sig .tc := ⟨.hbm, 282, rfl⟩
abbrev main_v239 : Ref sig .tc := ⟨.hbm, 283, rfl⟩
abbrev main_cst_23 : Ref sig .tc := ⟨.hbm, 284, rfl⟩
abbrev main_v240 : Ref sig .tc := ⟨.hbm, 285, rfl⟩
abbrev main_v241 : Ref sig .tc := ⟨.hbm, 286, rfl⟩
abbrev main_v242 : Ref sig .tc := ⟨.hbm, 287, rfl⟩
abbrev main_v243 : Ref sig .tc := ⟨.hbm, 288, rfl⟩
abbrev main_v244 : Ref sig .tc := ⟨.hbm, 289, rfl⟩
abbrev main_v245 : Ref sig .tc := ⟨.hbm, 290, rfl⟩
abbrev main_v246 : Ref sig .tc := ⟨.hbm, 291, rfl⟩
abbrev main_v247 : Ref sig .tc := ⟨.hbm, 292, rfl⟩
abbrev main_v248 : Ref sig .tc := ⟨.hbm, 293, rfl⟩
abbrev main_v249 : Ref sig .tc := ⟨.hbm, 294, rfl⟩
abbrev main_v250 : Ref sig .tc := ⟨.hbm, 295, rfl⟩
abbrev main_v251 : Ref sig .tc := ⟨.hbm, 296, rfl⟩
abbrev main_v252 : Ref sig .tc := ⟨.hbm, 297, rfl⟩
abbrev main_v253 : Ref sig .tc := ⟨.hbm, 298, rfl⟩
abbrev main_v254 : Ref sig .tc := ⟨.hbm, 299, rfl⟩
abbrev main_v255 : Ref sig .tc := ⟨.hbm, 300, rfl⟩
abbrev main_v256 : Ref sig .tc := ⟨.hbm, 301, rfl⟩
abbrev main_v257 : Ref sig .tc := ⟨.hbm, 302, rfl⟩
abbrev main_cst_24 : Ref sig .tc := ⟨.hbm, 303, rfl⟩
abbrev main_v258 : Ref sig .tc := ⟨.hbm, 304, rfl⟩
abbrev main_v259 : Ref sig .tc := ⟨.hbm, 305, rfl⟩
abbrev main_cst_25 : Ref sig .tc := ⟨.hbm, 306, rfl⟩
abbrev main_v260 : Ref sig .tc := ⟨.hbm, 307, rfl⟩
abbrev main_v261 : Ref sig .tc := ⟨.hbm, 308, rfl⟩
abbrev main_v262 : Ref sig .tc := ⟨.hbm, 309, rfl⟩
abbrev main_v263 : Ref sig .tc := ⟨.hbm, 310, rfl⟩
abbrev main_v264 : Ref sig .tc := ⟨.hbm, 311, rfl⟩
abbrev main_v265 : Ref sig .tc := ⟨.hbm, 312, rfl⟩
abbrev main_v266 : Ref sig .tc := ⟨.hbm, 313, rfl⟩
abbrev main_v267 : Ref sig .tc := ⟨.hbm, 314, rfl⟩
abbrev main_v268 : Ref sig .tc := ⟨.hbm, 315, rfl⟩
abbrev main_v269 : Ref sig .tc := ⟨.hbm, 316, rfl⟩
abbrev main_v270 : Ref sig .tc := ⟨.hbm, 317, rfl⟩
abbrev main_v271 : Ref sig .tc := ⟨.hbm, 318, rfl⟩
abbrev main_v272 : Ref sig .tc := ⟨.hbm, 319, rfl⟩
abbrev main_cst_26 : Ref sig .tc := ⟨.hbm, 320, rfl⟩
abbrev main_v273 : Ref sig .tc := ⟨.hbm, 321, rfl⟩
abbrev main_v274 : Ref sig .tc := ⟨.hbm, 322, rfl⟩
abbrev main_cst_27 : Ref sig .tc := ⟨.hbm, 323, rfl⟩
abbrev main_v275 : Ref sig .tc := ⟨.hbm, 324, rfl⟩
abbrev main_v276 : Ref sig .tc := ⟨.hbm, 325, rfl⟩
abbrev main_v277 : Ref sig .tc := ⟨.hbm, 326, rfl⟩
abbrev main_v278 : Ref sig .tc := ⟨.hbm, 327, rfl⟩
abbrev main_v279 : Ref sig .tc := ⟨.hbm, 328, rfl⟩
abbrev main_v280 : Ref sig .tc := ⟨.hbm, 329, rfl⟩
abbrev main_v281 : Ref sig .tc := ⟨.hbm, 330, rfl⟩
abbrev main_v282 : Ref sig .tc := ⟨.hbm, 331, rfl⟩
abbrev main_v283 : Ref sig .tc := ⟨.hbm, 332, rfl⟩
abbrev main_v284 : Ref sig .tc := ⟨.hbm, 333, rfl⟩
abbrev main_v285 : Ref sig .tc := ⟨.hbm, 334, rfl⟩
abbrev main_v286 : Ref sig .tc := ⟨.hbm, 335, rfl⟩
abbrev main_v287 : Ref sig .tc := ⟨.hbm, 336, rfl⟩
abbrev main_v288 : Ref sig .tc := ⟨.hbm, 337, rfl⟩
abbrev main_cst_28 : Ref sig .tc := ⟨.hbm, 338, rfl⟩
abbrev main_v289 : Ref sig .tc := ⟨.hbm, 339, rfl⟩
abbrev main_v290 : Ref sig .tc := ⟨.hbm, 340, rfl⟩
abbrev main_v291 : Ref sig .tc := ⟨.hbm, 341, rfl⟩
abbrev main_v292 : Ref sig .tc := ⟨.hbm, 342, rfl⟩
abbrev main_v293 : Ref sig .tc := ⟨.hbm, 343, rfl⟩
abbrev main_v294 : Ref sig .tc := ⟨.hbm, 344, rfl⟩
abbrev main_v295 : Ref sig .tc := ⟨.hbm, 345, rfl⟩
abbrev main_v296 : Ref sig .tc := ⟨.hbm, 346, rfl⟩
abbrev main_v297 : Ref sig .tc := ⟨.hbm, 347, rfl⟩
abbrev main_v298 : Ref sig .tc := ⟨.hbm, 348, rfl⟩
abbrev main_v299 : Ref sig .tc := ⟨.hbm, 349, rfl⟩
abbrev main_v300 : Ref sig .tc := ⟨.hbm, 350, rfl⟩
abbrev main_v301 : Ref sig .tc := ⟨.hbm, 351, rfl⟩
abbrev main_v302 : Ref sig .tc := ⟨.hbm, 352, rfl⟩
abbrev main_v303 : Ref sig .tc := ⟨.hbm, 353, rfl⟩
abbrev main_v304 : Ref sig .tc := ⟨.hbm, 354, rfl⟩
abbrev main_v305 : Ref sig .tc := ⟨.hbm, 355, rfl⟩
abbrev main_v306 : Ref sig .tc := ⟨.hbm, 356, rfl⟩
abbrev main_cst_29 : Ref sig .tc := ⟨.hbm, 357, rfl⟩
abbrev main_v307 : Ref sig .tc := ⟨.hbm, 358, rfl⟩
abbrev main_v308 : Ref sig .tc := ⟨.hbm, 359, rfl⟩
abbrev main_cst_30 : Ref sig .tc := ⟨.hbm, 360, rfl⟩
abbrev main_v309 : Ref sig .tc := ⟨.hbm, 361, rfl⟩
abbrev main_v310 : Ref sig .tc := ⟨.hbm, 362, rfl⟩
abbrev main_v311 : Ref sig .tc := ⟨.hbm, 363, rfl⟩
abbrev main_v312 : Ref sig .tc := ⟨.hbm, 364, rfl⟩
abbrev main_v313 : Ref sig .tc := ⟨.hbm, 365, rfl⟩
abbrev main_v314 : Ref sig .tc := ⟨.hbm, 366, rfl⟩
abbrev main_v315 : Ref sig .tc := ⟨.hbm, 367, rfl⟩
abbrev main_v316 : Ref sig .tc := ⟨.hbm, 368, rfl⟩
abbrev main_v317 : Ref sig .tc := ⟨.hbm, 369, rfl⟩
abbrev main_v318 : Ref sig .tc := ⟨.hbm, 370, rfl⟩
abbrev main_v319 : Ref sig .tc := ⟨.hbm, 371, rfl⟩
abbrev main_v320 : Ref sig .tc := ⟨.hbm, 372, rfl⟩
abbrev main_v321 : Ref sig .tc := ⟨.hbm, 373, rfl⟩
abbrev main_cst_31 : Ref sig .tc := ⟨.hbm, 374, rfl⟩
abbrev main_v322 : Ref sig .tc := ⟨.hbm, 375, rfl⟩
abbrev main_v323 : Ref sig .tc := ⟨.hbm, 376, rfl⟩
abbrev main_cst_32 : Ref sig .tc := ⟨.hbm, 377, rfl⟩
abbrev main_v324 : Ref sig .tc := ⟨.hbm, 378, rfl⟩
abbrev main_v325 : Ref sig .tc := ⟨.hbm, 379, rfl⟩
abbrev main_v326 : Ref sig .tc := ⟨.hbm, 380, rfl⟩
abbrev main_v327 : Ref sig .tc := ⟨.hbm, 381, rfl⟩
abbrev main_v328 : Ref sig .tc := ⟨.hbm, 382, rfl⟩
abbrev main_v329 : Ref sig .tc := ⟨.hbm, 383, rfl⟩
abbrev main_v330 : Ref sig .tc := ⟨.hbm, 384, rfl⟩
abbrev main_v331 : Ref sig .tc := ⟨.hbm, 385, rfl⟩
abbrev main_v332 : Ref sig .tc := ⟨.hbm, 386, rfl⟩
abbrev main_v333 : Ref sig .tc := ⟨.hbm, 387, rfl⟩
abbrev main_v334 : Ref sig .tc := ⟨.hbm, 388, rfl⟩
abbrev main_v335 : Ref sig .tc := ⟨.hbm, 389, rfl⟩
abbrev main_v336 : Ref sig .tc := ⟨.hbm, 390, rfl⟩
abbrev main_v337 : Ref sig .tc := ⟨.hbm, 391, rfl⟩
abbrev main_cst_33 : Ref sig .tc := ⟨.hbm, 392, rfl⟩
abbrev main_v338 : Ref sig .tc := ⟨.hbm, 393, rfl⟩
abbrev main_v339 : Ref sig .tc := ⟨.hbm, 394, rfl⟩
abbrev main_v340 : Ref sig .tc := ⟨.hbm, 395, rfl⟩
abbrev main_v341 : Ref sig .tc := ⟨.hbm, 396, rfl⟩
abbrev main_v342 : Ref sig .tc := ⟨.hbm, 397, rfl⟩
abbrev main_v343 : Ref sig .tc := ⟨.hbm, 398, rfl⟩
abbrev main_v344 : Ref sig .tc := ⟨.hbm, 399, rfl⟩
abbrev main_v345 : Ref sig .tc := ⟨.hbm, 400, rfl⟩
abbrev main_v346 : Ref sig .tc := ⟨.hbm, 401, rfl⟩
abbrev main_v347 : Ref sig .tc := ⟨.hbm, 402, rfl⟩
abbrev main_v348 : Ref sig .tc := ⟨.hbm, 403, rfl⟩
abbrev main_v349 : Ref sig .tc := ⟨.hbm, 404, rfl⟩
abbrev main_v350 : Ref sig .tc := ⟨.hbm, 405, rfl⟩
abbrev main_v351 : Ref sig .tc := ⟨.hbm, 406, rfl⟩
abbrev main_v352 : Ref sig .tc := ⟨.hbm, 407, rfl⟩
abbrev main_v353 : Ref sig .tc := ⟨.hbm, 408, rfl⟩
abbrev main_v354 : Ref sig .tc := ⟨.hbm, 409, rfl⟩
abbrev main_v355 : Ref sig .tc := ⟨.hbm, 410, rfl⟩
abbrev main_cst_34 : Ref sig .tc := ⟨.hbm, 411, rfl⟩
abbrev main_v356 : Ref sig .tc := ⟨.hbm, 412, rfl⟩
abbrev main_v357 : Ref sig .tc := ⟨.hbm, 413, rfl⟩
abbrev main_cst_35 : Ref sig .tc := ⟨.hbm, 414, rfl⟩
abbrev main_v358 : Ref sig .tc := ⟨.hbm, 415, rfl⟩
abbrev main_v359 : Ref sig .tc := ⟨.hbm, 416, rfl⟩
abbrev main_v360 : Ref sig .tc := ⟨.hbm, 417, rfl⟩
abbrev main_v361 : Ref sig .tc := ⟨.hbm, 418, rfl⟩
abbrev main_v362 : Ref sig .tc := ⟨.hbm, 419, rfl⟩
abbrev main_v363 : Ref sig .tc := ⟨.hbm, 420, rfl⟩
abbrev main_v364 : Ref sig .tc := ⟨.hbm, 421, rfl⟩
abbrev main_v365 : Ref sig .tc := ⟨.hbm, 422, rfl⟩
abbrev main_v366 : Ref sig .tc := ⟨.hbm, 423, rfl⟩
abbrev main_v367 : Ref sig .tc := ⟨.hbm, 424, rfl⟩
abbrev main_v368 : Ref sig .tc := ⟨.hbm, 425, rfl⟩
abbrev main_v369 : Ref sig .tc := ⟨.hbm, 426, rfl⟩
abbrev main_v370 : Ref sig .tc := ⟨.hbm, 427, rfl⟩
abbrev main_cst_36 : Ref sig .tc := ⟨.hbm, 428, rfl⟩
abbrev main_v371 : Ref sig .tc := ⟨.hbm, 429, rfl⟩
abbrev main_v372 : Ref sig .tc := ⟨.hbm, 430, rfl⟩
abbrev main_cst_37 : Ref sig .tc := ⟨.hbm, 431, rfl⟩
abbrev main_v373 : Ref sig .tc := ⟨.hbm, 432, rfl⟩
abbrev main_v374 : Ref sig .tc := ⟨.hbm, 433, rfl⟩
abbrev main_v375 : Ref sig .tc := ⟨.hbm, 434, rfl⟩
abbrev main_v376 : Ref sig .tc := ⟨.hbm, 435, rfl⟩
abbrev main_v377 : Ref sig .tc := ⟨.hbm, 436, rfl⟩
abbrev main_v378 : Ref sig .tc := ⟨.hbm, 437, rfl⟩
abbrev main_v379 : Ref sig .tc := ⟨.hbm, 438, rfl⟩
abbrev main_v380 : Ref sig .tc := ⟨.hbm, 439, rfl⟩
abbrev main_v381 : Ref sig .tc := ⟨.hbm, 440, rfl⟩
abbrev main_v382 : Ref sig .tc := ⟨.hbm, 441, rfl⟩
abbrev main_v383 : Ref sig .tc := ⟨.hbm, 442, rfl⟩
abbrev main_v384 : Ref sig .tc := ⟨.hbm, 443, rfl⟩
abbrev main_v385 : Ref sig .tc := ⟨.hbm, 444, rfl⟩
abbrev main_v386 : Ref sig .tc := ⟨.hbm, 445, rfl⟩
abbrev main_cst_38 : Ref sig .tc := ⟨.hbm, 446, rfl⟩
abbrev main_v387 : Ref sig .tc := ⟨.hbm, 447, rfl⟩
abbrev main_v388 : Ref sig .tc := ⟨.hbm, 448, rfl⟩
abbrev main_v389 : Ref sig .tc := ⟨.hbm, 449, rfl⟩
abbrev main_v390 : Ref sig .tc := ⟨.hbm, 450, rfl⟩
abbrev main_v391 : Ref sig .tc := ⟨.hbm, 451, rfl⟩
abbrev main_v392 : Ref sig .tc := ⟨.hbm, 452, rfl⟩
abbrev main_cst_39 : Ref sig .tc := ⟨.hbm, 453, rfl⟩
abbrev main_call0_cst : Ref sig .tc := ⟨.hbm, 454, rfl⟩
abbrev main_call0_v0 : Ref sig .tc := ⟨.hbm, 455, rfl⟩
abbrev main_call0_v1 : Ref sig .tc := ⟨.hbm, 456, rfl⟩
abbrev main_call0_v2 : Ref sig .tc := ⟨.hbm, 457, rfl⟩
abbrev main_call0_v3 : Ref sig .tc := ⟨.hbm, 458, rfl⟩
abbrev main_call0_v4 : Ref sig .tc := ⟨.hbm, 459, rfl⟩
abbrev main_v393 : Ref sig .tc := ⟨.hbm, 460, rfl⟩
abbrev main_v394 : Ref sig .tc := ⟨.hbm, 461, rfl⟩
abbrev main_v395 : Ref sig .tc := ⟨.hbm, 462, rfl⟩
abbrev main_v396 : Ref sig .tc := ⟨.hbm, 463, rfl⟩
abbrev main_v397 : Ref sig .tc := ⟨.hbm, 464, rfl⟩
abbrev main_cst_40 : Ref sig .tc := ⟨.hbm, 465, rfl⟩
abbrev main_call1_cst : Ref sig .tc := ⟨.hbm, 466, rfl⟩
abbrev main_call1_v0 : Ref sig .tc := ⟨.hbm, 467, rfl⟩
abbrev main_call1_v1 : Ref sig .tc := ⟨.hbm, 468, rfl⟩
abbrev main_call1_v2 : Ref sig .tc := ⟨.hbm, 469, rfl⟩
abbrev main_call1_v3 : Ref sig .tc := ⟨.hbm, 470, rfl⟩
abbrev main_call1_v4 : Ref sig .tc := ⟨.hbm, 471, rfl⟩
abbrev main_v398 : Ref sig .tc := ⟨.hbm, 472, rfl⟩
abbrev main_v399 : Ref sig .tc := ⟨.hbm, 473, rfl⟩
abbrev main_v400 : Ref sig .tc := ⟨.hbm, 474, rfl⟩
abbrev main_v401 : Ref sig .tc := ⟨.hbm, 475, rfl⟩
abbrev main_v402 : Ref sig .tc := ⟨.hbm, 476, rfl⟩
abbrev main_v403 : Ref sig .tc := ⟨.hbm, 477, rfl⟩
abbrev main_v404 : Ref sig .tc := ⟨.hbm, 478, rfl⟩

abbrev nD : Nat := 1
abbrev τ : Topo := Topo.v7x

variable {F : FTy → Type} [FloatOps F]
-- ==== Proof.GruMath.lean ====
/-
  The recurrence of one row, over the extended reals: one GRU step as the kernel spells it (the logistic function
  through `tanh`, the state blended as `t + z·(h - t)`) and as the reference spells it (the logistic function through
  `exp`, the state blended as `z·h + (1 - z)·t`), the two states equal after every step from a zero state, and the
  readout both apply to a row.
-/
module

public import Idealize.ShloMosaic.PureOps.Ideal
public import Idealize.ShloMosaic.Lib.IdealHost

@[expose] public section

noncomputable section

open scoped BigOperators
open Idealize.ShloMosaic

namespace Cert.Gru

/-- A row of 128 features. -/
abbrev Row := Fin 128 → EReal

/-- The six weight matrices of a step. -/
structure Weights where
  xz : Fin 128 → Row
  xr : Fin 128 → Row
  xh : Fin 128 → Row
  hz : Fin 128 → Row
  hr : Fin 128 → Row
  hh : Fin 128 → Row

/-- A row times a matrix, at one column. -/
def lin (v : Row) (W : Fin 128 → Row) (j : Fin 128) : EReal := ∑ k : Fin 128, v k * W k j

/-- The literal one half. -/
abbrev half : EReal := Ideal.ofBits .f32 0x3F000000#32

/-- The logistic function as the kernel computes it. -/
def gate (u : EReal) : EReal := half + half * Ideal.tanh (half * u)

/-- The kernel's first step, which starts from the zero state. -/
def firstK (W : Weights) (x : Row) (j : Fin 128) : EReal :=
  Ideal.tanh (lin x W.xh j) - gate (lin x W.xz j) * Ideal.tanh (lin x W.xh j)

/-- The kernel's candidate state. -/
def candK (W : Weights) (x h : Row) (j : Fin 128) : EReal :=
  Ideal.tanh (lin x W.xh j + lin (fun k => h k * gate (lin x W.xr k + lin h W.hr k)) W.hh j)

/-- The kernel's later steps. -/
def stepK (W : Weights) (x h : Row) (j : Fin 128) : EReal :=
  candK W x h j + gate (lin x W.xz j + lin h W.hz j) * (h j - candK W x h j)

/-- The kernel's state after step `t`. -/
def stateK (W : Weights) (x : ℕ → Row) : ℕ → Row
  | 0 => firstK W (x 0)
  | t + 1 => stepK W (x (t + 1)) (stateK W x t)

/-- The logistic function as the reference computes it. -/
def logi (u : EReal) : EReal := Ideal.div 1 (1 + Ideal.exp (-u))

/-- The reference's candidate state. -/
def candR (W : Weights) (x h : Row) (j : Fin 128) : EReal :=
  Ideal.tanh (lin x W.xh j + lin (fun k => h k * logi (lin x W.xr k + lin h W.hr k)) W.hh j)

/-- The reference's step. -/
def stepR (W : Weights) (x h : Row) (j : Fin 128) : EReal :=
  logi (lin x W.xz j + lin h W.hz j) * h j + (1 - logi (lin x W.xz j + lin h W.hz j)) * candR W x h j

/-- The reference's state after step `t`, from the zero state. -/
def stateR (W : Weights) (x : ℕ → Row) : ℕ → Row
  | 0 => stepR W (x 0) fun _ => 0
  | t + 1 => stepR W (x (t + 1)) (stateR W x t)

/-- The literal one half is the real one half. -/
theorem half_eq : half = ((1 / 2 : ℝ) : EReal) := by
  simp [half, Ideal.ofBits, Ideal.ieee, -EReal.coe_mul]
  norm_num

/-- On the reals, the logistic function is one half of one plus the hyperbolic tangent of half the argument. -/
theorem real_logistic (u : ℝ) : 1 / 2 + 1 / 2 * Real.tanh (1 / 2 * u) = (1 + Real.exp (-u))⁻¹ := by
  have h1 : Real.exp (-u) = Real.exp (-(1 / 2 * u)) * Real.exp (-(1 / 2 * u)) := by
    rw [← Real.exp_add]; congr 1; ring
  have h2 : Real.exp (1 / 2 * u) * Real.exp (-(1 / 2 * u)) = 1 := by
    rw [← Real.exp_add]; simp
  rw [Real.tanh_eq_sinh_div_cosh, Real.sinh_eq, Real.cosh_eq, h1]
  have ha := Real.exp_pos (1 / 2 * u)
  have hb := Real.exp_pos (-(1 / 2 * u))
  set a := Real.exp (1 / 2 * u)
  set b := Real.exp (-(1 / 2 * u))
  have hab : a + b ≠ 0 := by positivity
  have hbb : 1 + b * b ≠ 0 := by positivity
  field_simp
  nlinarith

/-- The two spellings of the logistic function agree at every extended real. -/
theorem gate_eq_logi (u : EReal) : gate u = logi u := by
  show gate u = Ideal.logistic u
  unfold gate
  rw [half_eq]
  induction u with
  | bot =>
    rw [EReal.coe_mul_bot_of_pos (by norm_num), Ideal.tanh_bot, Ideal.logistic_bot]
    rw [show (-1 : EReal) = ((-1 : ℝ) : EReal) by simp, ← EReal.coe_mul, ← EReal.coe_add]
    norm_num
  | top =>
    rw [EReal.coe_mul_top_of_pos (by norm_num), Ideal.tanh_top, Ideal.logistic_top]
    rw [show (1 : EReal) = ((1 : ℝ) : EReal) by simp, ← EReal.coe_mul, ← EReal.coe_add]
    norm_num
  | coe r =>
    rw [← EReal.coe_mul, Ideal.tanh_coe, ← EReal.coe_mul, ← EReal.coe_add, Ideal.logistic_coe, real_logistic]

/-- The hyperbolic tangent is finite. -/
theorem tanh_real (u : EReal) : ∃ r : ℝ, Ideal.tanh u = (r : EReal) := by
  induction u with
  | bot => exact ⟨-1, by simp⟩
  | top => exact ⟨1, by simp⟩
  | coe r => exact ⟨_, Ideal.tanh_coe r⟩

/-- The logistic function is finite. -/
theorem logi_real (u : EReal) : ∃ r : ℝ, logi u = (r : EReal) := by
  show ∃ r : ℝ, Ideal.logistic u = (r : EReal)
  induction u with
  | bot => exact ⟨0, by simp⟩
  | top => exact ⟨1, by simp⟩
  | coe r => exact ⟨_, Ideal.logistic_coe r⟩

/-- The two candidate states are one. -/
theorem candK_eq (W : Weights) (x h : Row) (j : Fin 128) : candK W x h j = candR W x h j := by
  unfold candK candR
  simp only [gate_eq_logi]

/-- From a finite state, the two steps are one. -/
theorem stepK_eq (W : Weights) (x h : Row) (hf : ∀ j, ∃ r : ℝ, h j = (r : EReal)) : stepK W x h = stepR W x h := by
  funext j
  unfold stepK stepR
  rw [candK_eq, gate_eq_logi]
  obtain ⟨t, ht⟩ : ∃ r : ℝ, candR W x h j = (r : EReal) := tanh_real _
  obtain ⟨z, hz⟩ := logi_real (lin x W.xz j + lin h W.hz j)
  obtain ⟨r, hr⟩ := hf j
  rw [ht, hz, hr, show (1 : EReal) = ((1 : ℝ) : EReal) by simp]
  simp only [← EReal.coe_mul, ← EReal.coe_add, ← EReal.coe_sub]
  congr 1
  ring

/-- The zero row times a matrix is zero. -/
theorem lin_zero (W : Fin 128 → Row) (j : Fin 128) : lin (fun _ => 0) W j = 0 := by
  simp [lin]

/-- The kernel's first step is the reference's step from the zero state. -/
theorem firstK_eq (W : Weights) (x : Row) : firstK W x = stepR W x fun _ => 0 := by
  funext j
  unfold firstK stepR candR
  simp only [zero_mul, lin_zero, add_zero, mul_zero, zero_add, gate_eq_logi]
  obtain ⟨t, ht⟩ := tanh_real (lin x W.xh j)
  obtain ⟨z, hz⟩ := logi_real (lin x W.xz j)
  rw [ht, hz, show (1 : EReal) = ((1 : ℝ) : EReal) by simp]
  simp only [← EReal.coe_mul, ← EReal.coe_sub]
  congr 1
  ring

/-- A step of the reference from a finite state is finite. -/
theorem stepR_real (W : Weights) (x h : Row) (hf : ∀ j, ∃ r : ℝ, h j = (r : EReal)) (j : Fin 128) :
    ∃ r : ℝ, stepR W x h j = (r : EReal) := by
  unfold stepR
  obtain ⟨t, ht⟩ : ∃ r : ℝ, candR W x h j = (r : EReal) := tanh_real _
  obtain ⟨z, hz⟩ := logi_real (lin x W.xz j + lin h W.hz j)
  obtain ⟨r, hr⟩ := hf j
  refine ⟨z * r + (1 - z) * t, ?_⟩
  rw [ht, hz, hr, show (1 : EReal) = ((1 : ℝ) : EReal) by simp]
  simp only [← EReal.coe_mul, ← EReal.coe_add, ← EReal.coe_sub]

/-- The reference's state is finite after every step. -/
theorem stateR_real (W : Weights) (x : ℕ → Row) : ∀ (t : ℕ) (j : Fin 128), ∃ r : ℝ, stateR W x t j = (r : EReal)
  | 0, j => stepR_real W _ _ (fun _ => ⟨0, by simp⟩) j
  | t + 1, j => stepR_real W _ _ (stateR_real W x t) j

/-- **The two states agree after every step.** -/
theorem stateK_eq (W : Weights) (x : ℕ → Row) : ∀ t : ℕ, stateK W x t = stateR W x t
  | 0 => firstK_eq W (x 0)
  | t + 1 => by
    show stepK W (x (t + 1)) (stateK W x t) = stepR W (x (t + 1)) (stateR W x t)
    rw [stateK_eq W x t, stepK_eq W _ _ (stateR_real W x t)]

/-- The leaky rectifier, with the literal slope both programs use. -/
def leaky (v : EReal) : EReal :=
  Scalar.select (Ideal.cmp .oge v (Ideal.ofBits .f32 0x00000000#32)) v (Ideal.ofBits .f32 0x3C23D70A#32 * v)

/-- The readout of a row: the rectified state times the first readout weights, rectified, times the row's weight. -/
def readRow (w1 : Row) (w2 : EReal) (h : Row) : EReal := leaky (∑ k : Fin 128, leaky (h k) * w1 k) * w2

end Cert.Gru

end
-- ==== Proof.Block.lean ====
/-
  What one block of the kernel computes: the body's values at an index, at the ideal instance. The later steps are one
  function of the packed weights, the state and the step's slice of `x` (`k0_pay26`), read at an index once
  (`step_apply`); the readout of a step is one function of the state (`readT`), read at an index once (`readT_apply`).
-/
module

public import proofs.«01_k».proof.Proof.GruMath
public import proofs.«01_k».proof.Proof.Gen.KernelIdeal.Frame
public import Idealize.ShloMosaic.Lib.Pipeline.Value
public import Idealize.ShloMosaic.Lib.ValueIdx
public import Idealize.ShloMosaic.Lib.MatmulPlain

@[expose] public section

noncomputable section

open scoped BigOperators

namespace Cert.KernelIdeal.Block

open Idealize.ShloMosaic Idealize.ShloMosaic.ValueIdx
open Cert.KernelIdeal Cert.KernelIdeal.Gen Cert.Gru

/-! ## The packed weights -/

/-- The six weight matrices, read off the six arrays. -/
def wts (x1 x2 x3 x4 x5 x6 : FVec Ideal S128x128 .f32) : Weights where
  xz := fun k j => x1 (ix2 k j)
  xr := fun k j => x2 (ix2 k j)
  xh := fun k j => x3 (ix2 k j)
  hz := fun k j => x4 (ix2 k j)
  hr := fun k j => x5 (ix2 k j)
  hh := fun k j => x6 (ix2 k j)

/-- Piece `p` of the three packed input weights, column `j`. -/
theorem wx_apply (x1 x2 x3 : FVec Ideal S128x128 .f32) (k j : Fin 128) :
    k0_pay2 (F := Ideal) x1 x2 x3 (ix2 k ⟨j.val, by omega⟩) = x1 (ix2 k j)
    ∧ k0_pay2 (F := Ideal) x1 x2 x3 (ix2 k ⟨128 + j.val, by omega⟩) = x2 (ix2 k j)
    ∧ k0_pay2 (F := Ideal) x1 x2 x3 (ix2 k ⟨256 + j.val, by omega⟩) = x3 (ix2 k j) := by
  show concatenate S128x384 1 [⟨S128x128, (x1 : FVec Ideal S128x128 .f32)⟩, ⟨S128x128, x2⟩, ⟨S128x128, x3⟩] concatenates_S128x128_S128x128_S128x128_S128x384_d1 _ = x1 _ ∧
    concatenate S128x384 1 [⟨S128x128, (x1 : FVec Ideal S128x128 .f32)⟩, ⟨S128x128, x2⟩, ⟨S128x128, x3⟩] concatenates_S128x128_S128x128_S128x128_S128x384_d1 _ = x2 _ ∧
    concatenate S128x384 1 [⟨S128x128, (x1 : FVec Ideal S128x128 .f32)⟩, ⟨S128x128, x2⟩, ⟨S128x128, x3⟩] concatenates_S128x128_S128x128_S128x128_S128x384_d1 _ = x3 _
  refine ⟨?_, ?_, ?_⟩
  · refine concatenate_apply_piece (t := S128x384) 1
      [⟨S128x128, (x1 : FVec Ideal S128x128 .f32)⟩, ⟨S128x128, x2⟩, ⟨S128x128, x3⟩]
      concatenates_S128x128_S128x128_S128x128_S128x384_d1 _ 0 (by simp) S128x128 x1 rfl rfl 0 rfl (ix2 k j) (fun b hb => ?_) ?_
    · match b with
      | ⟨0, _⟩ => rfl
      | ⟨1, _⟩ => exact absurd rfl hb
    · show 0 + j.val = j.val; omega
  · refine concatenate_apply_piece (t := S128x384) 1
      [⟨S128x128, (x1 : FVec Ideal S128x128 .f32)⟩, ⟨S128x128, x2⟩, ⟨S128x128, x3⟩]
      concatenates_S128x128_S128x128_S128x128_S128x384_d1 _ 1 (by simp) S128x128 x2 rfl rfl 128 rfl (ix2 k j) (fun b hb => ?_) ?_
    · match b with
      | ⟨0, _⟩ => rfl
      | ⟨1, _⟩ => exact absurd rfl hb
    · rfl
  · refine concatenate_apply_piece (t := S128x384) 1
      [⟨S128x128, (x1 : FVec Ideal S128x128 .f32)⟩, ⟨S128x128, x2⟩, ⟨S128x128, x3⟩]
      concatenates_S128x128_S128x128_S128x128_S128x384_d1 _ 2 (by simp) S128x128 x3 rfl rfl 256 rfl (ix2 k j) (fun b hb => ?_) ?_
    · match b with
      | ⟨0, _⟩ => rfl
      | ⟨1, _⟩ => exact absurd rfl hb
    · rfl

/-- Piece `p` of the two packed state weights, column `j`. -/
theorem wh_apply (x4 x5 : FVec Ideal S128x128 .f32) (k j : Fin 128) :
    k0_pay3 (F := Ideal) x4 x5 (ix2 k ⟨j.val, by omega⟩) = x4 (ix2 k j)
    ∧ k0_pay3 (F := Ideal) x4 x5 (ix2 k ⟨128 + j.val, by omega⟩) = x5 (ix2 k j) := by
  show concatenate S128x256 1 [⟨S128x128, (x4 : FVec Ideal S128x128 .f32)⟩, ⟨S128x128, x5⟩] concatenates_S128x128_S128x128_S128x256_d1 _ = x4 _ ∧
    concatenate S128x256 1 [⟨S128x128, (x4 : FVec Ideal S128x128 .f32)⟩, ⟨S128x128, x5⟩] concatenates_S128x128_S128x128_S128x256_d1 _ = x5 _
  refine ⟨?_, ?_⟩
  · refine concatenate_apply_piece (t := S128x256) 1
      [⟨S128x128, (x4 : FVec Ideal S128x128 .f32)⟩, ⟨S128x128, x5⟩]
      concatenates_S128x128_S128x128_S128x256_d1 _ 0 (by simp) S128x128 x4 rfl rfl 0 rfl (ix2 k j) (fun b hb => ?_) ?_
    · match b with
      | ⟨0, _⟩ => rfl
      | ⟨1, _⟩ => exact absurd rfl hb
    · show 0 + j.val = j.val; omega
  · refine concatenate_apply_piece (t := S128x256) 1
      [⟨S128x128, (x4 : FVec Ideal S128x128 .f32)⟩, ⟨S128x128, x5⟩]
      concatenates_S128x128_S128x128_S128x256_d1 _ 1 (by simp) S128x128 x5 rfl rfl 128 rfl (ix2 k j) (fun b hb => ?_) ?_
    · match b with
      | ⟨0, _⟩ => rfl
      | ⟨1, _⟩ => exact absurd rfl hb
    · rfl

/-! ## The products -/

/-- A product into zeros, at an index: the sum over the contracted coordinate. -/
theorem mm_apply {M K N : ℕ} {φ₁ φ₂ : FTy} (lhs : FVec Ideal ⟨2, ![M, K]⟩ φ₁) (rhs : FVec Ideal ⟨2, ![K, N]⟩ φ₂)
    (r : Fin M) (c : Fin N) :
    matmul (DotDims.plain M K N) none lhs rhs (constant ⟨2, ![M, N]⟩ .f32 0x00000000#32) (ix2 r c)
      = ∑ k : Fin K, lhs (ix2 r k) * rhs (ix2 k c) := by
  refine (Ideal.matmul_plain_apply none lhs rhs _ r c).trans ?_
  rw [constant_apply, Ideal.ofBits_zero_f32, zero_add]

/-- A step's slice of `x` times the packed input weights. -/
def xw (wx : FVec Ideal S128x384 .bf16) (xt : FVec Ideal S1x2000x128 .f32) : FVec Ideal S2000x384 .f32 :=
  k0_pay10 wx xt

/-- The state times the packed state weights. -/
def hw (wh : FVec Ideal S128x256 .bf16) (h : FVec Ideal S2000x128 .f32) : FVec Ideal S2000x256 .f32 :=
  k0_pay11 wh h

/-- Row `n` of a step's slice. -/
def rowX (xt : FVec Ideal S1x2000x128 .f32) (n : Fin 2000) : Row := fun k => xt (ix3 (0 : Fin 1) n k)

/-- Row `n` of a state. -/
def rowH (h : FVec Ideal S2000x128 .f32) (n : Fin 2000) : Row := fun k => h (ix2 n k)

/-- A row of `x` times the packed input weights, at a column. -/
theorem xw_apply (wx : FVec Ideal S128x384 .bf16) (xt : FVec Ideal S1x2000x128 .f32) (n : Fin 2000) (c : Fin 384) :
    xw wx xt (ix2 n c) = ∑ k : Fin 128, rowX xt n k * wx (ix2 k c) := by
  refine (mm_apply (M := 2000) (K := 128) (N := 384) _ wx n c).trans (Finset.sum_congr rfl fun k _ => ?_)
  refine congrArg (· * wx (ix2 k c)) ?_
  refine (shapeCast_dropUnit_apply ![2000, 128] xt _ (ix2 n k)).trans (congrArg xt ?_)
  funext a
  match a with
  | ⟨0, _⟩ => rfl
  | ⟨1, _⟩ => rfl
  | ⟨2, _⟩ => rfl

/-- A row of the state times the packed state weights, at a column. -/
theorem hw_apply (wh : FVec Ideal S128x256 .bf16) (h : FVec Ideal S2000x128 .f32) (n : Fin 2000) (c : Fin 256) :
    hw wh h (ix2 n c) = ∑ k : Fin 128, rowH h n k * wh (ix2 k c) :=
  mm_apply (M := 2000) (K := 128) (N := 256) _ wh n c

/-- A slice of 128 columns of an array of rows. -/
theorem cols_apply {N : ℕ} (o : ℕ) (v : FVec Ideal ⟨2, ![2000, N]⟩ .f32) (h : (⟨2, ![2000, N]⟩ : Shape).Slices ![0, o] S2000x128)
    (n : Fin 2000) (j : Fin 128) (hj : o + j.val < N) :
    extractStridedSlice S2000x128 ![0, o] v h (ix2 n j) = v (ix2 n ⟨o + j.val, hj⟩) := by
  refine extractStridedSlice_apply _ v h _ _ fun a => ?_
  match a with
  | ⟨0, _⟩ => show n.val = 0 + n.val; omega
  | ⟨1, _⟩ => rfl

/-! ## The first step and the later steps -/

variable (x1 x2 x3 x4 x5 x6 : FVec Ideal S128x128 .f32)

/-- The update gate's columns of the product with `x`. -/
theorem xz_apply (xt : FVec Ideal S1x2000x128 .f32) (n : Fin 2000) (j : Fin 128) :
    extractStridedSlice S2000x128 ![0, 0] (xw (k0_pay2 x1 x2 x3) xt) slices_S2000x384_o0_0_S2000x128 (ix2 n j)
      = lin (rowX xt n) (wts x1 x2 x3 x4 x5 x6).xz j := by
  rw [cols_apply 0 _ _ n j (by omega), xw_apply]
  refine Finset.sum_congr rfl fun k _ => congrArg (rowX xt n k * ·) ?_
  refine Eq.trans (congrArg _ (congrArg (ix2 k) (Fin.ext (Nat.zero_add j.val)))) (wx_apply x1 x2 x3 k j).1

/-- The reset gate's columns of the product with `x`. -/
theorem xr_apply (xt : FVec Ideal S1x2000x128 .f32) (n : Fin 2000) (j : Fin 128) :
    extractStridedSlice S2000x128 ![0, 128] (xw (k0_pay2 x1 x2 x3) xt) slices_S2000x384_o0_128_S2000x128 (ix2 n j)
      = lin (rowX xt n) (wts x1 x2 x3 x4 x5 x6).xr j := by
  rw [cols_apply 128 _ _ n j (by omega), xw_apply]
  exact Finset.sum_congr rfl fun k _ => congrArg (rowX xt n k * ·) (wx_apply x1 x2 x3 k j).2.1

/-- The candidate's columns of the product with `x`. -/
theorem xh_apply (xt : FVec Ideal S1x2000x128 .f32) (n : Fin 2000) (j : Fin 128) :
    extractStridedSlice S2000x128 ![0, 256] (xw (k0_pay2 x1 x2 x3) xt) slices_S2000x384_o0_256_S2000x128 (ix2 n j)
      = lin (rowX xt n) (wts x1 x2 x3 x4 x5 x6).xh j := by
  rw [cols_apply 256 _ _ n j (by omega), xw_apply]
  exact Finset.sum_congr rfl fun k _ => congrArg (rowX xt n k * ·) (wx_apply x1 x2 x3 k j).2.2

/-- The update gate's columns of the product with the state. -/
theorem hz_apply (h : FVec Ideal S2000x128 .f32) (n : Fin 2000) (j : Fin 128) :
    extractStridedSlice S2000x128 ![0, 0] (hw (k0_pay3 x4 x5) h) slices_S2000x256_o0_0_S2000x128 (ix2 n j)
      = lin (rowH h n) (wts x1 x2 x3 x4 x5 x6).hz j := by
  rw [cols_apply 0 _ _ n j (by omega), hw_apply]
  refine Finset.sum_congr rfl fun k _ => congrArg (rowH h n k * ·) ?_
  refine Eq.trans (congrArg _ (congrArg (ix2 k) (Fin.ext (Nat.zero_add j.val)))) (wh_apply x4 x5 k j).1

/-- The reset gate's columns of the product with the state. -/
theorem hr_apply (h : FVec Ideal S2000x128 .f32) (n : Fin 2000) (j : Fin 128) :
    extractStridedSlice S2000x128 ![0, 128] (hw (k0_pay3 x4 x5) h) slices_S2000x256_o0_128_S2000x128 (ix2 n j)
      = lin (rowH h n) (wts x1 x2 x3 x4 x5 x6).hr j := by
  rw [cols_apply 128 _ _ n j (by omega), hw_apply]
  exact Finset.sum_congr rfl fun k _ => congrArg (rowH h n k * ·) (wh_apply x4 x5 k j).2

/-- **The first step at an index.** -/
theorem first_apply (xt : FVec Ideal S1x2000x128 .f32) (n : Fin 2000) (j : Fin 128) :
    k0_pay7 (F := Ideal) x1 x2 x3 xt (ix2 n j) = firstK (wts x1 x2 x3 x4 x5 x6) (rowX xt n) j := by
  unfold firstK
  rw [← xz_apply x1 x2 x3 x4 x5 x6, ← xh_apply x1 x2 x3 x4 x5 x6]
  rfl

/-- The state times the candidate's weights. -/
def hhw (wh : FVec Ideal S128x128 .bf16) (h : FVec Ideal S2000x128 .f32) : FVec Ideal S2000x128 .f32 :=
  matmul dot_S2000x128_S128x128_S2000x128_1_0_0_1_n_n none (truncf .bf16 h bitsLt_bf16_f32) wh
    (constant S2000x128 .f32 0x00000000#32)

/-- The candidate's product with the reset state. -/
theorem hh_apply (h : FVec Ideal S2000x128 .f32) (n : Fin 2000) (j : Fin 128) :
    hhw (k0_pay4 x6) h (ix2 n j) = lin (rowH h n) (wts x1 x2 x3 x4 x5 x6).hh j :=
  mm_apply (M := 2000) (K := 128) (N := 128) _ (k0_pay4 x6) n j

/-- A gate on an array of rows. -/
def gateT (v : FVec Ideal S2000x128 .f32) : FVec Ideal S2000x128 .f32 :=
  addf (broadcast S2000x128 half) (mulf (broadcast S2000x128 half) (tanh (mulf (broadcast S2000x128 half) v)))

/-- **A later step at an index.** -/
theorem step_apply (h : FVec Ideal S2000x128 .f32) (xt : FVec Ideal S1x2000x128 .f32) (n : Fin 2000) (j : Fin 128) :
    k0_pay26 (F := Ideal) (k0_pay2 x1 x2 x3) (k0_pay3 x4 x5) (k0_pay4 x6) h xt (ix2 n j)
      = stepK (wts x1 x2 x3 x4 x5 x6) (rowX xt n) (rowH h n) j := by
  have e : lin (fun k => rowH h n k * gate (lin (rowX xt n) (wts x1 x2 x3 x4 x5 x6).xr k
        + lin (rowH h n) (wts x1 x2 x3 x4 x5 x6).hr k)) (wts x1 x2 x3 x4 x5 x6).hh j
      = hhw (k0_pay4 x6) (mulf h (gateT
          (addf (extractStridedSlice S2000x128 ![0, 128] (xw (k0_pay2 x1 x2 x3) xt) slices_S2000x384_o0_128_S2000x128)
            (extractStridedSlice S2000x128 ![0, 128] (hw (k0_pay3 x4 x5) h) slices_S2000x256_o0_128_S2000x128))))
          (ix2 n j) := by
    rw [hh_apply x1 x2 x3 x4 x5 x6]
    refine congrArg (fun r : Row => lin r (wts x1 x2 x3 x4 x5 x6).hh j) (funext fun k => ?_)
    rw [← xr_apply x1 x2 x3 x4 x5 x6, ← hr_apply x1 x2 x3 x4 x5 x6]
    rfl
  unfold stepK candK
  rw [e, ← xz_apply x1 x2 x3 x4 x5 x6, ← xh_apply x1 x2 x3 x4 x5 x6, ← hz_apply x1 x2 x3 x4 x5 x6]
  rfl

/-! ## The readout -/

/-- A step's readout row, from the first readout weights in 128 equal columns, the block's second readout weights, a row of
    ones and the state. -/
def readT (w1 : FVec Ideal S128x128 .f32) (w2 : FVec Ideal S2000x1 .f32) (ones : FVec Ideal S1x2000 .f32)
    (h : FVec Ideal S2000x128 .f32) : FVec Ideal S1x1x128 .f32 :=
  k0_pay28 w1 w2 ones h (cmpf .oge h (broadcast S2000x128 (Scalar.ofBits .f32 0x00000000#32)))

/-- The first readout weights, the same in each column. -/
theorem w1_apply (x7 : FVec Ideal S128x1 .f32) (k j : Fin 128) : k0_pay5 (F := Ideal) x7 (ix2 k j) = x7 (ix2 k (0 : Fin 1)) := by
  unfold k0_pay5
  refine (broadcastTo_apply _ _ _ (ix2 k (0 : Fin 1)) fun a => ?_).trans (congrFun (shapeCast_self x7 _) _)
  match a with
  | ⟨0, _⟩ => rfl
  | ⟨1, _⟩ => rfl

/-- The rectifier on an array of rows. -/
def leakyT (v : FVec Ideal S2000x128 .f32) : FVec Ideal S2000x128 .f32 :=
  select (cmpf .oge v (broadcast S2000x128 (Scalar.ofBits .f32 0x00000000#32))) v
    (mulf (broadcast S2000x128 (Scalar.ofBits .f32 0x3C23D70A#32)) v)

/-- The rectifier of a block, entry by entry. -/
theorem leakyT_apply (v : FVec Ideal S2000x128 .f32) (i : S2000x128.Idx) : leakyT v i = leaky (v i) := rfl

/-- **A step's readout at a column**: the sum over the block's rows of the rows' readouts. -/
theorem readT_apply (x7 : FVec Ideal S128x1 .f32) (x8 : FVec Ideal S2000x1 .f32) (h : FVec Ideal S2000x128 .f32) (j : Fin 128) :
    readT (k0_pay5 x7) x8 (k0_pay6 (F := Ideal)) h (ix3 (0 : Fin 1) (0 : Fin 1) j)
      = ∑ n : Fin 2000, readRow (fun k => x7 (ix2 k (0 : Fin 1))) (x8 (ix2 n (0 : Fin 1))) (rowH h n) := by
  show shapeCast S1x1x128 (shapeCast S128 (matmul (F := Ideal) (φ₁ := .f32) (φ₂ := .f32) dot_S1x2000_S2000x128_S1x128_1_0_0_1_n_n none (k0_pay6 (F := Ideal))
      (mulf (leakyT (matmul (F := Ideal) (φ₁ := .f32) (φ₂ := .f32) dot_S2000x128_S128x128_S2000x128_1_0_0_1_n_n none (leakyT h) (k0_pay5 x7) (constant S2000x128 .f32 0x00000000#32)))
        (broadcastTo S2000x128 x8 broadcasts_S2000x1_S2000x128)) (constant S1x128 .f32 0x00000000#32)) shapeCasts_S1x128_S128) shapeCasts_S128_S1x1x128 _ = _
  refine (shapeCast_apply _ _ _ (ix1 j) ?_).trans ?_
  · rw [Shape.rowMajor_val_one, Shape.rowMajor_val_three]
    show j.val = (0 * _ + 0) * 128 + j.val
    omega
  refine (shapeCast_dropUnit_apply ![128] _ _ (ix1 j)).trans ?_
  rw [show (Fin.cons ⟨0, Nat.one_pos⟩ (ix1 j) : S1x128.Idx) = ix2 (0 : Fin 1) j from
    funext fun a => match a with | ⟨0, _⟩ => rfl | ⟨1, _⟩ => rfl]
  refine (mm_apply (M := 1) (K := 2000) (N := 128) _ _ (0 : Fin 1) j).trans (Finset.sum_congr rfl fun n _ => ?_)
  rw [show k0_pay6 (F := Ideal) (ix2 (0 : Fin 1) n) = 1 from Ideal.ofBits_one_f32, one_mul, mulf_apply, leakyT_apply]
  unfold readRow
  refine congrArg₂ (· * ·) (congrArg leaky ?_) ?_
  · refine (mm_apply (M := 2000) (K := 128) (N := 128) _ _ n j).trans (Finset.sum_congr rfl fun k _ => ?_)
    rw [w1_apply, leakyT_apply]
    rfl
  · refine broadcastTo_apply _ _ _ (ix2 n (0 : Fin 1)) fun a => ?_
    match a with
    | ⟨0, _⟩ => rfl
    | ⟨1, _⟩ => rfl

end Cert.KernelIdeal.Block

end
-- ==== Proof.BlockOut.lean ====
/-
  What one grid point leaves in its two output blocks: the state after the last step, and the eight readout rows. The states
  of the eight steps are one recursion on the step (`hid`), read at an index by induction (`hid_apply`).
-/
module

public import proofs.«01_k».proof.Proof.Block

@[expose] public section

noncomputable section

open scoped BigOperators

namespace Cert.KernelIdeal.Block

open Idealize.ShloMosaic Idealize.ShloMosaic.ValueIdx
open Cert.KernelIdeal Cert.KernelIdeal.Gen Cert.Gru

variable (x0 : FVec Ideal S8x2000x128 .f32) (x1 x2 x3 x4 x5 x6 : FVec Ideal S128x128 .f32)
  (x7 : FVec Ideal S128x1 .f32) (x8 : FVec Ideal S2000x1 .f32)

/-- The step's slice of the block of `x`. -/
def xs (t : ℕ) : FVec Ideal S1x2000x128 .f32 :=
  fun i => x0 (ix3 (⟨t % 8, Nat.mod_lt _ (by decide)⟩ : Fin 8) (i 1 : Fin 2000) (i 2 : Fin 128))

/-- A load of one step of the block of `x` is the step's slice. -/
theorem ld_x (o : ℕ) (ho : o < 8) (inb : ∀ a, (![o, 0, 0] : Fin 3 → ℕ) a + S1x2000x128.size a ≤ S8x2000x128.size a) :
    View.ld (Val := Elt Ideal) (e' := .f32) x0 (Rect.unit (s := S8x2000x128) ![o, 0, 0] S1x2000x128.size inb) = xs x0 o := by
  rw [View.ld_unit]
  funext i
  refine extractStridedSlice_apply _ _ _ _ _ fun a => ?_
  match a with
  | ⟨0, _⟩ =>
    show o % 8 = o + (i 0).val
    have h0 : (i 0).val < 1 := (i 0).isLt
    rw [Nat.mod_eq_of_lt ho]; omega
  | ⟨1, _⟩ => show (i 1).val = 0 + (i 1).val; omega
  | ⟨2, _⟩ => show (i 2).val = 0 + (i 2).val; omega

/-- The zero offsets. -/
theorem hz2 : (![0, 0] : Fin 2 → Nat) = fun _ => 0 := funext fun a => by fin_cases a <;> rfl

/-- A load of a whole weight matrix is the matrix. -/
theorem ld_w (x : FVec Ideal S128x128 .f32) : View.ld (Val := Elt Ideal) (e' := .f32) x r0_0 = x := View.ld_unit_zero (Val := Elt Ideal) (e := .f32) (S := S128x128) hz2 _ x
/-- A load of the first readout weights is the array. -/
theorem ld_w1 : View.ld (Val := Elt Ideal) (e' := .f32) x7 r0_1 = x7 := View.ld_unit_zero (Val := Elt Ideal) (e := .f32) (S := S128x1) hz2 _ x7
/-- A load of the second readout weights is the block. -/
theorem ld_w2 : View.ld (Val := Elt Ideal) (e' := .f32) x8 r0_2 = x8 := View.ld_unit_zero (Val := Elt Ideal) (e := .f32) (S := S2000x1) hz2 _ x8

/-- The state after step `t`. -/
def hid : ℕ → FVec Ideal S2000x128 .f32
  | 0 => k0_pay7 (F := Ideal) x1 x2 x3 (xs x0 0)
  | t + 1 => k0_pay26 (F := Ideal) (k0_pay2 (F := Ideal) x1 x2 x3) (k0_pay3 (F := Ideal) x4 x5) (k0_pay4 (F := Ideal) x6) (hid t) (xs x0 (t + 1))

/-- **The state after step `t` at an index**: the row's recursion. -/
theorem hid_apply (n : Fin 2000) : ∀ (t : ℕ) (j : Fin 128),
    hid x0 x1 x2 x3 x4 x5 x6 t (ix2 n j) = stateK (wts x1 x2 x3 x4 x5 x6) (fun t => rowX (xs x0 t) n) t j
  | 0, j => first_apply x1 x2 x3 x4 x5 x6 _ n j
  | t + 1, j => by
    refine (step_apply x1 x2 x3 x4 x5 x6 _ _ n j).trans ?_
    rw [show rowH (hid x0 x1 x2 x3 x4 x5 x6 t) n = _ from funext (hid_apply n t)]
    rfl

/-! ## The body's named values are the recursion's -/

/-- The body's state after step 0. -/
theorem h0_eq : k0_pay49 (F := Ideal) x0 x1 x2 x3 x4 x5 x6 x7 x8 = hid x0 x1 x2 x3 x4 x5 x6 0 := by
  unfold k0_pay49
  simp only [ld_w, ld_x x0 0 (by decide)]
  rfl

/-- The body's packed input weights. -/
theorem wx_eq : k0_pay44 (F := Ideal) x0 x1 x2 x3 x4 x5 x6 x7 x8 = k0_pay2 (F := Ideal) x1 x2 x3 := by unfold k0_pay44; simp only [ld_w]
/-- The body's packed state weights. -/
theorem wh_eq : k0_pay45 (F := Ideal) x0 x1 x2 x3 x4 x5 x6 x7 x8 = k0_pay3 (F := Ideal) x4 x5 := by unfold k0_pay45; simp only [ld_w]
/-- The body's candidate weights. -/
theorem wc_eq : k0_pay46 (F := Ideal) x0 x1 x2 x3 x4 x5 x6 x7 x8 = k0_pay4 (F := Ideal) x6 := by unfold k0_pay46; simp only [ld_w]
/-- The body's first readout weights. -/
theorem w1_eq : k0_pay47 (F := Ideal) x0 x1 x2 x3 x4 x5 x6 x7 x8 = k0_pay5 (F := Ideal) x7 := by unfold k0_pay47; simp only [ld_w1]

/-- A step of the recursion over the values the body names. -/
theorem hid_succ (t : ℕ) (ht : t + 1 < 8) (inb) (h : FVec Ideal S2000x128 .f32) (e : h = hid x0 x1 x2 x3 x4 x5 x6 t) :
    k0_pay26 (F := Ideal) (k0_pay44 (F := Ideal) x0 x1 x2 x3 x4 x5 x6 x7 x8) (k0_pay45 (F := Ideal) x0 x1 x2 x3 x4 x5 x6 x7 x8) (k0_pay46 (F := Ideal) x0 x1 x2 x3 x4 x5 x6 x7 x8) h
        (View.ld (Val := Elt Ideal) (e' := .f32) x0 (Rect.unit (s := S8x2000x128) ![t + 1, 0, 0] S1x2000x128.size inb)) = hid x0 x1 x2 x3 x4 x5 x6 (t + 1) := by
  rw [wx_eq, wh_eq, wc_eq, ld_x x0 (t + 1) ht, e]
  rfl

/-- The body's state after step 1. -/
theorem h1_eq : k0_pay53 (F := Ideal) x0 x1 x2 x3 x4 x5 x6 x7 x8 = hid x0 x1 x2 x3 x4 x5 x6 1 :=
  hid_succ x0 x1 x2 x3 x4 x5 x6 x7 x8 0 (by decide) inb_S8x2000x128_S1x2000x128_1_0_0 _ (h0_eq x0 x1 x2 x3 x4 x5 x6 x7 x8)
/-- The body's state after step 2. -/
theorem h2_eq : k0_pay58 (F := Ideal) x0 x1 x2 x3 x4 x5 x6 x7 x8 = hid x0 x1 x2 x3 x4 x5 x6 2 :=
  hid_succ x0 x1 x2 x3 x4 x5 x6 x7 x8 1 (by decide) inb_S8x2000x128_S1x2000x128_2_0_0 _ (h1_eq x0 x1 x2 x3 x4 x5 x6 x7 x8)
/-- The body's state after step 3. -/
theorem h3_eq : k0_pay60 (F := Ideal) x0 x1 x2 x3 x4 x5 x6 x7 x8 = hid x0 x1 x2 x3 x4 x5 x6 3 :=
  hid_succ x0 x1 x2 x3 x4 x5 x6 x7 x8 2 (by decide) inb_S8x2000x128_S1x2000x128_3_0_0 _ (h2_eq x0 x1 x2 x3 x4 x5 x6 x7 x8)
/-- The body's state after step 4. -/
theorem h4_eq : k0_pay61 (F := Ideal) x0 x1 x2 x3 x4 x5 x6 x7 x8 = hid x0 x1 x2 x3 x4 x5 x6 4 :=
  hid_succ x0 x1 x2 x3 x4 x5 x6 x7 x8 3 (by decide) inb_S8x2000x128_S1x2000x128_4_0_0 _ (h3_eq x0 x1 x2 x3 x4 x5 x6 x7 x8)
/-- The body's state after step 5. -/
theorem h5_eq : k0_pay65 (F := Ideal) x0 x1 x2 x3 x4 x5 x6 x7 x8 = hid x0 x1 x2 x3 x4 x5 x6 5 :=
  hid_succ x0 x1 x2 x3 x4 x5 x6 x7 x8 4 (by decide) inb_S8x2000x128_S1x2000x128_5_0_0 _ (h4_eq x0 x1 x2 x3 x4 x5 x6 x7 x8)
/-- The body's state after step 6. -/
theorem h6_eq : k0_pay70 (F := Ideal) x0 x1 x2 x3 x4 x5 x6 x7 x8 = hid x0 x1 x2 x3 x4 x5 x6 6 :=
  hid_succ x0 x1 x2 x3 x4 x5 x6 x7 x8 5 (by decide) inb_S8x2000x128_S1x2000x128_6_0_0 _ (h5_eq x0 x1 x2 x3 x4 x5 x6 x7 x8)

/-- The last state, as the body stores it. -/
abbrev last : FVec Ideal S2000x128 .f32 :=
  k0_pay42 (F := Ideal) (k0_pay44 (F := Ideal) x0 x1 x2 x3 x4 x5 x6 x7 x8) (k0_pay45 (F := Ideal) x0 x1 x2 x3 x4 x5 x6 x7 x8) (k0_pay46 (F := Ideal) x0 x1 x2 x3 x4 x5 x6 x7 x8)
    (k0_pay70 (F := Ideal) x0 x1 x2 x3 x4 x5 x6 x7 x8) (k0_pay71 (F := Ideal) x0 x1 x2 x3 x4 x5 x6 x7 x8)

/-- The body's state after step 7. -/
theorem h7_eq : last x0 x1 x2 x3 x4 x5 x6 x7 x8 = hid x0 x1 x2 x3 x4 x5 x6 7 :=
  hid_succ x0 x1 x2 x3 x4 x5 x6 x7 x8 6 (by decide) inb_S8x2000x128_S1x2000x128_7_0_0 _ (h6_eq x0 x1 x2 x3 x4 x5 x6 x7 x8)

/-! ## The two output blocks -/

/-- **The block of the last state** is the state after step 7. -/
theorem out10_eq : out0_10 (F := Ideal) x0 x1 x2 x3 x4 x5 x6 x7 x8 = hid x0 x1 x2 x3 x4 x5 x6 7 := by
  unfold out0_10
  exact (View.canon_unit_zero (S := S2000x128) hz2 _ _).trans (h7_eq x0 x1 x2 x3 x4 x5 x6 x7 x8)

/-- The readout of the block's rows after step `t`. -/
def readSum (t : ℕ) : EReal :=
  ∑ n : Fin 2000, readRow (fun k => x7 (ix2 k (0 : Fin 1))) (x8 (ix2 n (0 : Fin 1)))
    (stateK (wts x1 x2 x3 x4 x5 x6) (fun t => rowX (xs x0 t) n) t)

/-- A stored readout row is the readout of the step whose row it is stored at. -/
theorem row_eq (o : ℕ) (inb : ∀ a, (![0, o, 0] : Fin 3 → ℕ) a + S1x1x128.size a ≤ S1x8x128.size a)
    (h : FVec Ideal S2000x128 .f32) (e : h = hid x0 x1 x2 x3 x4 x5 x6 o) (y : S1x1x128.Idx) :
    readT (k0_pay47 (F := Ideal) x0 x1 x2 x3 x4 x5 x6 x7 x8) (View.ld (Val := Elt Ideal) (e' := .f32) x8 r0_2) (k0_pay48 (F := Ideal) x0 x1 x2 x3 x4 x5 x6 x7 x8) h y
      = readSum x0 x1 x2 x3 x4 x5 x6 x7 x8
          (((Rect.unit (s := S1x8x128) ![0, o, 0] S1x1x128.size inb).emb y) 1).val := by
  have ho : (((Rect.unit (s := S1x8x128) ![0, o, 0] S1x1x128.size inb).emb y) 1).val = o := by
    show o + 1 * (y 1).val = o
    have h1 : (y 1).val < 1 := (y 1).isLt
    omega
  rw [ho, w1_eq, ld_w2]
  have ey : y = ix3 (0 : Fin 1) (0 : Fin 1) (y 2 : Fin 128) := by
    funext a
    match a with
    | ⟨0, _⟩ => exact Subsingleton.elim (α := Fin 1) _ _
    | ⟨1, _⟩ => exact Subsingleton.elim (α := Fin 1) _ _
    | ⟨2, _⟩ => rfl
  rw [ey]
  refine (readT_apply x7 x8 h (y 2 : Fin 128)).trans (Finset.sum_congr rfl fun n _ => ?_)
  rw [show rowH h n = _ from funext fun j => (congrFun e (ix2 n j)).trans (hid_apply x0 x1 x2 x3 x4 x5 x6 n o j)]

/-- **The block of readouts at row `t`**, in every column: the readout of the block's rows after step `t`. -/
theorem out9_apply (y : S1x8x128.Idx) :
    out0_9 (F := Ideal) x0 x1 x2 x3 x4 x5 x6 x7 x8 y = readSum x0 x1 x2 x3 x4 x5 x6 x7 x8 (y 1).val := by
  unfold out0_9
  refine View.canon_apply_of_pieces (Val := Elt Ideal) (fun y => readSum x0 x1 x2 x3 x4 x5 x6 x7 x8 (y 1).val) _ ?_ y (cover0_9 _ _ _ _ _ _ _ _ y)
  intro p hp
  simp only [List.mem_cons, List.not_mem_nil, or_false] at hp
  rcases hp with rfl | rfl | rfl | rfl | rfl | rfl | rfl | rfl
  · exact row_eq x0 x1 x2 x3 x4 x5 x6 x7 x8 7 inb_S1x8x128_S1x1x128_0_7_0 _ (h7_eq x0 x1 x2 x3 x4 x5 x6 x7 x8)
  · exact row_eq x0 x1 x2 x3 x4 x5 x6 x7 x8 6 inb_S1x8x128_S1x1x128_0_6_0 _ (h6_eq x0 x1 x2 x3 x4 x5 x6 x7 x8)
  · exact row_eq x0 x1 x2 x3 x4 x5 x6 x7 x8 5 inb_S1x8x128_S1x1x128_0_5_0 _ (h5_eq x0 x1 x2 x3 x4 x5 x6 x7 x8)
  · exact row_eq x0 x1 x2 x3 x4 x5 x6 x7 x8 4 inb_S1x8x128_S1x1x128_0_4_0 _ (h4_eq x0 x1 x2 x3 x4 x5 x6 x7 x8)
  · exact row_eq x0 x1 x2 x3 x4 x5 x6 x7 x8 3 inb_S1x8x128_S1x1x128_0_3_0 _ (h3_eq x0 x1 x2 x3 x4 x5 x6 x7 x8)
  · exact row_eq x0 x1 x2 x3 x4 x5 x6 x7 x8 2 inb_S1x8x128_S1x1x128_0_2_0 _ (h2_eq x0 x1 x2 x3 x4 x5 x6 x7 x8)
  · exact row_eq x0 x1 x2 x3 x4 x5 x6 x7 x8 1 inb_S1x8x128_S1x1x128_0_1_0 _ (h1_eq x0 x1 x2 x3 x4 x5 x6 x7 x8)
  · exact row_eq x0 x1 x2 x3 x4 x5 x6 x7 x8 0 inb_S1x8x128_S1x1x128_0_0_0 _ (h0_eq x0 x1 x2 x3 x4 x5 x6 x7 x8)

end Cert.KernelIdeal.Block

end
-- ==== Proof.Arrays.lean ====
/-
  What the kernel's two result arrays hold after the grid: grid point `t` works on rows `2000 t … 2000 t + 1999`, so the
  array of last states holds each row's recursion, and the array of readouts holds in row `t` the readouts of those rows.
-/
module

public import proofs.«01_k».proof.Proof.BlockOut

@[expose] public section

noncomputable section

open scoped BigOperators

namespace Cert.KernelIdeal.Block

open Idealize.ShloMosaic Idealize.ShloMosaic.TcCoe Idealize.ShloMosaic.ValueIdx Idealize.SL.Sem
open Idealize.ShloMosaic.Pipeline (Dat)
open Cert.KernelIdeal Cert.KernelIdeal.Gen Cert.Gru

variable (m : (ℓ : Loc nD τ sig) → Buf (Elt Ideal) ℓ) (c : Dev nD)

/-! ## The argument arrays -/

abbrev aX : FVec Ideal S8x10000x128 .f32 := m ((c.tc : Thread nD τ).loc main_arg0)
abbrev aXz : FVec Ideal S128x128 .f32 := m ((c.tc : Thread nD τ).loc main_arg4)
abbrev aHz : FVec Ideal S128x128 .f32 := m ((c.tc : Thread nD τ).loc main_arg6)
abbrev aXr : FVec Ideal S128x128 .f32 := m ((c.tc : Thread nD τ).loc main_arg8)
abbrev aHr : FVec Ideal S128x128 .f32 := m ((c.tc : Thread nD τ).loc main_arg10)
abbrev aXh : FVec Ideal S128x128 .f32 := m ((c.tc : Thread nD τ).loc main_arg12)
abbrev aHh : FVec Ideal S128x128 .f32 := m ((c.tc : Thread nD τ).loc main_arg14)
abbrev aW1 : FVec Ideal S128x1 .f32 := m ((c.tc : Thread nD τ).loc main_arg16)
abbrev aW2 : FVec Ideal S10000x1 .f32 := m ((c.tc : Thread nD τ).loc main_arg18)

/-- The weights of the launch. -/
abbrev aW : Weights := wts (aXz m c) (aXr m c) (aXh m c) (aHz m c) (aHr m c) (aHh m c)

/-- Row `n` of each step's slice of `x`. -/
def rows (X : FVec Ideal S8x10000x128 .f32) (n : Fin 10000) (t : ℕ) : Row :=
  fun k => X (ix3 (⟨t % 8, Nat.mod_lt _ (by decide)⟩ : Fin 8) n k)

/-- Row `n` of grid point `t`'s block of rows. -/
def rowAt (t : Fin 5) (n : Fin 2000) : Fin 10000 := ⟨t.val * 2000 + n.val, by omega⟩

/-! ## The blocks of the arguments -/

/-- The grid has five points. -/
theorem N5 : cfg0.N = 5 := N_0

/-- A grid point as a block number. -/
def pt (t : Fin cfg0.N) : Fin 5 := ⟨t.val, by have := t.isLt; have := N5; omega⟩

/-- Where the block of `x` sits at a grid point. -/
theorem idx0 : ∀ t : Fin grid0.N, win0_0.index t 0 = 0 ∧ win0_0.index t 1 = t.val ∧ win0_0.index t 2 = 0 := by decide +kernel
/-- Where the block of second readout weights sits. -/
theorem idx8 : ∀ t : Fin grid0.N, win0_8.index t 0 = t.val ∧ win0_8.index t 1 = 0 := by decide +kernel
/-- Where the block of readouts sits. -/
theorem idx9 : ∀ t : Fin grid0.N, win0_9.index t 0 = t.val ∧ win0_9.index t 1 = 0 ∧ win0_9.index t 2 = 0 := by decide +kernel
/-- Where the block of last states sits. -/
theorem idx10 : ∀ t : Fin grid0.N, win0_10.index t 0 = t.val ∧ win0_10.index t 1 = 0 := by decide +kernel

/-- The block of `x` at a grid point. -/
theorem iblk0_apply (t : Fin cfg0.N) (s : Fin 8) (n : Fin 2000) (k : Fin 128) :
    (iblk m c 0 t : FVec Ideal S8x2000x128 .f32) (ix3 s n k) = aX m c (ix3 s (rowAt (pt t) n) k) := by
  show aX m c ((win0_0.rect t).emb (ix3 s n k)) = _
  refine congrArg (aX m c) (funext fun a => Fin.ext ?_)
  refine (Pipeline.Window.rect_emb_val win0_0 t _ a).trans ?_
  obtain ⟨e0, e1, e2⟩ := idx0 t
  match a with
  | ⟨0, _⟩ => show win0_0.index t 0 * 8 + s.val = s.val; rw [e0]; omega
  | ⟨1, _⟩ => show win0_0.index t 1 * 2000 + n.val = t.val * 2000 + n.val; rw [e1]
  | ⟨2, _⟩ => show win0_0.index t 2 * 128 + k.val = k.val; rw [e2]; omega

/-- The block of the second readout weights at a grid point. -/
theorem iblk8_apply (t : Fin cfg0.N) (n : Fin 2000) :
    (iblk m c 8 t : FVec Ideal S2000x1 .f32) (ix2 n (0 : Fin 1)) = aW2 m c (ix2 (rowAt (pt t) n) (0 : Fin 1)) := by
  show aW2 m c ((win0_8.rect t).emb (ix2 n (0 : Fin 1))) = _
  refine congrArg (aW2 m c) (funext fun a => Fin.ext ?_)
  refine (Pipeline.Window.rect_emb_val win0_8 t _ a).trans ?_
  obtain ⟨e0, e1⟩ := idx8 t
  match a with
  | ⟨0, _⟩ => show win0_8.index t 0 * 2000 + n.val = t.val * 2000 + n.val; rw [e0]
  | ⟨1, _⟩ => show win0_8.index t 1 * 1 + 0 = 0; rw [e1]

/-- A window whose block is its whole array reads the array. -/
theorem iblk1_eq (t : Fin cfg0.N) : iblk m c 1 t = aXz m c :=
  funext fun y => congrArg (aXz m c) (funext fun a => Fin.ext (Pipeline.Window.rect_emb_val_of_index_zero win0_1 t a (by fin_cases a <;> rfl) y))
/-- A window whose block is its whole array reads the array. -/
theorem iblk2_eq (t : Fin cfg0.N) : iblk m c 2 t = aXr m c :=
  funext fun y => congrArg (aXr m c) (funext fun a => Fin.ext (Pipeline.Window.rect_emb_val_of_index_zero win0_2 t a (by fin_cases a <;> rfl) y))
/-- A window whose block is its whole array reads the array. -/
theorem iblk3_eq (t : Fin cfg0.N) : iblk m c 3 t = aXh m c :=
  funext fun y => congrArg (aXh m c) (funext fun a => Fin.ext (Pipeline.Window.rect_emb_val_of_index_zero win0_3 t a (by fin_cases a <;> rfl) y))
/-- A window whose block is its whole array reads the array. -/
theorem iblk4_eq (t : Fin cfg0.N) : iblk m c 4 t = aHz m c :=
  funext fun y => congrArg (aHz m c) (funext fun a => Fin.ext (Pipeline.Window.rect_emb_val_of_index_zero win0_4 t a (by fin_cases a <;> rfl) y))
/-- A window whose block is its whole array reads the array. -/
theorem iblk5_eq (t : Fin cfg0.N) : iblk m c 5 t = aHr m c :=
  funext fun y => congrArg (aHr m c) (funext fun a => Fin.ext (Pipeline.Window.rect_emb_val_of_index_zero win0_5 t a (by fin_cases a <;> rfl) y))
/-- A window whose block is its whole array reads the array. -/
theorem iblk6_eq (t : Fin cfg0.N) : iblk m c 6 t = aHh m c :=
  funext fun y => congrArg (aHh m c) (funext fun a => Fin.ext (Pipeline.Window.rect_emb_val_of_index_zero win0_6 t a (by fin_cases a <;> rfl) y))
/-- A window whose block is its whole array reads the array. -/
theorem iblk7_eq (t : Fin cfg0.N) : iblk m c 7 t = aW1 m c :=
  funext fun y => congrArg (aW1 m c) (funext fun a => Fin.ext (Pipeline.Window.rect_emb_val_of_index_zero win0_7 t a (by fin_cases a <;> rfl) y))

/-- The rows a grid point's block works on. -/
theorem rows_blk (t : Fin cfg0.N) (n : Fin 2000) :
    (fun s => rowX (xs (iblk m c 0 t) s) n) = rows (aX m c) (rowAt (pt t) n) :=
  funext fun s => funext fun k => iblk0_apply m c t _ n k

/-! ## The two arrays -/

/-- The array of last states. -/
def final10 : FVec Ideal S10000x128 .f32 :=
  fun i => stateK (aW m c) (rows (aX m c) (i 0 : Fin 10000)) 7 (i 1 : Fin 128)

/-- The array of readouts. -/
def final9 : FVec Ideal S5x8x128 .f32 := fun i =>
  ∑ n : Fin 2000, readRow (fun k => aW1 m c (ix2 k (0 : Fin 1))) (aW2 m c (ix2 (rowAt (i 0 : Fin 5) n) (0 : Fin 1)))
    (stateK (aW m c) (rows (aX m c) (rowAt (i 0 : Fin 5) n)) (i 1).val)

/-- The block of last states at a grid point is its rows of the array of last states. -/
theorem blk10 (t : Fin cfg0.N) (z : S2000x128.Idx) :
    hid (iblk m c 0 t) (aXz m c) (aXr m c) (aXh m c) (aHz m c) (aHr m c) (aHh m c) 7 z
      = final10 m c ((win0_10.rect t).emb z) := by
  obtain ⟨e0, e1⟩ := idx10 t
  have r0 : ((win0_10.rect t).emb z 0 : Fin 10000) = rowAt (pt t) (z 0 : Fin 2000) := Fin.ext (by
    refine (Pipeline.Window.rect_emb_val win0_10 t _ 0).trans ?_
    show win0_10.index t 0 * 2000 + (z 0).val = t.val * 2000 + (z 0).val
    rw [e0])
  have r1 : ((win0_10.rect t).emb z 1 : Fin 128) = (z 1 : Fin 128) := Fin.ext (by
    refine (Pipeline.Window.rect_emb_val win0_10 t _ 1).trans ?_
    show win0_10.index t 1 * 128 + (z 1).val = (z 1).val
    rw [e1]; omega)
  unfold final10
  rw [r0, r1]
  refine (congrArg _ (eq_ix2 z)).trans ((hid_apply _ _ _ _ _ _ _ _ 7 _).trans ?_)
  exact congrArg (fun f => stateK (aW m c) f 7 (z 1 : Fin 128)) (rows_blk m c t (z 0 : Fin 2000))

/-- What a grid point writes back into the array of last states. -/
theorem flushed10 (t : Fin cfg0.N) :
    (dats m 0 c).flushed 10 t = ((cfg0.win 10).blk t).view.read (Elt Ideal) (final10 m c) := by
  show (cfg0.win 10).cut (grid0.coords t) ((dats m 0 c).after 10 t) = _
  rw [after0_10, out10_eq, iblk1_eq, iblk2_eq, iblk3_eq, iblk4_eq, iblk5_eq, iblk6_eq]
  funext y
  exact blk10 m c t y

/-- What a grid point writes back into the array of readouts. -/
theorem flushed9 (t : Fin cfg0.N) :
    (dats m 0 c).flushed 9 t = ((cfg0.win 9).blk t).view.read (Elt Ideal) (final9 m c) := by
  show (cfg0.win 9).cut (grid0.coords t) ((dats m 0 c).after 9 t) = _
  rw [after0_9, iblk1_eq, iblk2_eq, iblk3_eq, iblk4_eq, iblk5_eq, iblk6_eq, iblk7_eq]
  funext y
  show out0_9 (F := Ideal) _ _ _ _ _ _ _ _ _ (y : S1x8x128.Idx) = final9 m c ((win0_9.rect t).emb y)
  rw [out9_apply]
  obtain ⟨e0, e1, _⟩ := idx9 t
  have h0 : (y 0).val < 1 := (y 0).isLt
  have r0 : ((win0_9.rect t).emb y 0 : Fin 5) = pt t := Fin.ext (by
    refine (Pipeline.Window.rect_emb_val win0_9 t _ 0).trans ?_
    show win0_9.index t 0 * 1 + (y 0).val = t.val
    rw [e0]; omega)
  have r1 : ((win0_9.rect t).emb y 1).val = (y 1).val := by
    refine (Pipeline.Window.rect_emb_val win0_9 t _ 1).trans ?_
    show win0_9.index t 1 * 8 + (y 1).val = (y 1).val
    rw [e1]; omega
  unfold final9 readSum
  rw [r0, r1]
  refine Finset.sum_congr rfl fun n _ => ?_
  rw [rows_blk, iblk8_apply]

/-- Every entry of the array of last states is in the block of some grid point. -/
theorem cover10 (i : S10000x128.Idx) :
    ∃ t : Fin cfg0.N, (cfg0.win 10).flush t = true ∧ i ∈ ((cfg0.win 10).blk t).view.set := by
  have hN := N5
  have h0 : (i 0 : Nat) < 10000 := (i 0).isLt
  have h1 : (i 1 : Nat) < 128 := (i 1).isLt
  refine ⟨⟨(i 0).val / 2000, by omega⟩, flush0_10 _, ?_⟩
  generalize ht : (⟨(i 0).val / 2000, _⟩ : Fin cfg0.N) = t
  have tv : t.val = (i 0).val / 2000 := by rw [← ht]
  show i ∈ ((View.whole main_v0_1).slice (win0_10.rect t)).set
  rw [View.set_slice_whole, Rect.mem_set_unit]
  obtain ⟨e0, e1⟩ := idx10 t
  intro a
  match a with
  | ⟨0, _⟩ =>
    show win0_10.index t 0 * 2000 ≤ (i 0 : Nat) ∧ (i 0 : Nat) < win0_10.index t 0 * 2000 + 2000
    rw [e0]; omega
  | ⟨1, _⟩ =>
    show win0_10.index t 1 * 128 ≤ (i 1 : Nat) ∧ (i 1 : Nat) < win0_10.index t 1 * 128 + 128
    rw [e1]; omega

/-- Every entry of the array of readouts is in the block of some grid point. -/
theorem cover9 (i : S5x8x128.Idx) :
    ∃ t : Fin cfg0.N, (cfg0.win 9).flush t = true ∧ i ∈ ((cfg0.win 9).blk t).view.set := by
  have hN := N5
  have h0 : (i 0 : Nat) < 5 := (i 0).isLt
  have h1 : (i 1 : Nat) < 8 := (i 1).isLt
  have h2 : (i 2 : Nat) < 128 := (i 2).isLt
  refine ⟨⟨(i 0).val, by omega⟩, flush0_9 _, ?_⟩
  generalize ht : (⟨(i 0).val, _⟩ : Fin cfg0.N) = t
  have tv : t.val = (i 0).val := by rw [← ht]
  show i ∈ ((View.whole main_v0_0).slice (win0_9.rect t)).set
  rw [View.set_slice_whole, Rect.mem_set_unit]
  obtain ⟨e0, e1, e2⟩ := idx9 t
  intro a
  match a with
  | ⟨0, _⟩ =>
    show win0_9.index t 0 * 1 ≤ (i 0 : Nat) ∧ (i 0 : Nat) < win0_9.index t 0 * 1 + 1
    rw [e0]; omega
  | ⟨1, _⟩ =>
    show win0_9.index t 1 * 8 ≤ (i 1 : Nat) ∧ (i 1 : Nat) < win0_9.index t 1 * 8 + 8
    rw [e1]; omega
  | ⟨2, _⟩ =>
    show win0_9.index t 2 * 128 ≤ (i 2 : Nat) ∧ (i 2 : Nat) < win0_9.index t 2 * 128 + 128
    rw [e2]; omega

/-- **The array of last states after the grid.** -/
theorem arr10 : (dats m 0 c).arrAt 10 cfg0.N = final10 m c :=
  (dats m 0 c).arrAt_eq_of_cover 10 (final10 m c) (fun t _ => flushed10 m c t) cover10

/-- **The array of readouts after the grid.** -/
theorem arr9 : (dats m 0 c).arrAt 9 cfg0.N = final9 m c :=
  (dats m 0 c).arrAt_eq_of_cover 9 (final9 m c) (fun t _ => flushed9 m c t) cover9

/-! ## The lines after the grid, and the run -/

/-- The first result: the readouts summed over the blocks, the first column of each row. -/
def out : FVec Ideal S8 .f32 :=
  shapeCast S8 (extractStridedSlice S8x1 ![0, 0]
    (Host.reduceAdd (final9 m c) (constant (F := Ideal) S_ .f32 0x00000000#32) reducesTo_S5x8x128_S8x128_d0 h_S_)
    slices_S8x128_S8x1_0_0) shapeCasts_S8x1_S8

/-- The windows have different arrays. -/
theorem arrRef_inj : Function.Injective (Pipeline.arrRef spec0) := by decide

/-- The first result after the lines that follow the grid. -/
theorem tail_out : Pipeline.afterTail₀ cfgs (dats m) 0 (V0 m) [hostOps1] c main_v3 = out m c := by
  have e9 : Pipeline.withArrays (cfgs 0).spec c (V0 m c) (fun w => (dats m 0 c).arrAt w (cfgs 0).N) (Proc.devRef .tc main_v0_0)
      = final9 m c :=
    (Pipeline.withArrays_arr spec0 arrRef_inj c (V0 m c) _ 9).trans (arr9 m c)
  unfold Pipeline.afterTail₀
  generalize Pipeline.withArrays (cfgs 0).spec c (V0 m c) (fun w => (dats m 0 c).arrAt w (cfgs 0).N) = W at e9
  simp only [hostOps1, List.flatten_cons, List.flatten_nil, List.append_nil]
  after_results
  rw [e9]
  rfl

/-- **The kernel's run**: both results, the arguments unchanged. -/
theorem run (ρ : Dev nD → PrngReg) : θ_run defs (onTc (τ := τ) (main (F := Ideal))) ⟨m, fun _ => 0, ρ⟩ fun r => ∀ c : Dev nD,
    r.2.mem ((c.tc : Thread nD τ).loc main_v3) = out m c
    ∧ r.2.mem ((c.tc : Thread nD τ).loc main_v0_1) = final10 m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)
    ∧ r.2.mem ((c.tc : Thread nD τ).loc main_arg17) = m ((c.tc : Thread nD τ).loc main_arg17)
    ∧ r.2.mem ((c.tc : Thread nD τ).loc main_arg18) = m ((c.tc : Thread nD τ).loc main_arg18)
    ∧ r.2.mem ((c.tc : Thread nD τ).loc main_arg19) = m ((c.tc : Thread nD τ).loc main_arg19) :=
  (θ_run defs _ _).mono (fun _ h c => ⟨((h c).2 main_v3 (by decide)).trans (tail_out m c),
    ((h c).1 10).trans (arr10 m c),
    ((h c).1 0).trans (((dats m 0 c).arrAt_in 0 rfl _).trans ((A_eq m c 0).trans (V_main_arg0 m c))),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).1 1).trans (((dats m 0 c).arrAt_in 1 rfl _).trans ((A_eq m c 1).trans (V_main_arg4 m c))),
    ((h c).2 main_arg5 (Pipeline.mem_restRefs_of main_arg5 (by decide) (by decide))).trans (W_main_arg5 m (dats m) c),
    ((h c).1 4).trans (((dats m 0 c).arrAt_in 4 rfl _).trans ((A_eq m c 4).trans (V_main_arg6 m c))),
    ((h c).2 main_arg7 (Pipeline.mem_restRefs_of main_arg7 (by decide) (by decide))).trans (W_main_arg7 m (dats m) c),
    ((h c).1 2).trans (((dats m 0 c).arrAt_in 2 rfl _).trans ((A_eq m c 2).trans (V_main_arg8 m c))),
    ((h c).2 main_arg9 (Pipeline.mem_restRefs_of main_arg9 (by decide) (by decide))).trans (W_main_arg9 m (dats m) c),
    ((h c).1 5).trans (((dats m 0 c).arrAt_in 5 rfl _).trans ((A_eq m c 5).trans (V_main_arg10 m c))),
    ((h c).2 main_arg11 (Pipeline.mem_restRefs_of main_arg11 (by decide) (by decide))).trans (W_main_arg11 m (dats m) c),
    ((h c).1 3).trans (((dats m 0 c).arrAt_in 3 rfl _).trans ((A_eq m c 3).trans (V_main_arg12 m c))),
    ((h c).2 main_arg13 (Pipeline.mem_restRefs_of main_arg13 (by decide) (by decide))).trans (W_main_arg13 m (dats m) c),
    ((h c).1 6).trans (((dats m 0 c).arrAt_in 6 rfl _).trans ((A_eq m c 6).trans (V_main_arg14 m c))),
    ((h c).2 main_arg15 (Pipeline.mem_restRefs_of main_arg15 (by decide) (by decide))).trans (W_main_arg15 m (dats m) c),
    ((h c).1 7).trans (((dats m 0 c).arrAt_in 7 rfl _).trans ((A_eq m c 7).trans (V_main_arg16 m c))),
    ((h c).2 main_arg17 (Pipeline.mem_restRefs_of main_arg17 (by decide) (by decide))).trans (W_main_arg17 m (dats m) c),
    ((h c).1 8).trans (((dats m 0 c).arrAt_in 8 rfl _).trans ((A_eq m c 8).trans (V_main_arg18 m c))),
    ((h c).2 main_arg19 (Pipeline.mem_restRefs_of main_arg19 (by decide) (by decide))).trans (W_main_arg19 m (dats m) c)⟩) (run_main m ρ)

end Cert.KernelIdeal.Block

end
-- ==== Proof.Ref.lean ====
/-
  What the reference computes, at the ideal instance. Its eight steps are one function of the step's slice of `x` and
  the state (`stepT`), read at an index once: with zero biases it is `Cert.Gru.stepR` on the row (`stepT_apply`).
-/
module

public import proofs.«01_k».proof.Proof.GruMath
public import proofs.«01_k».proof.Proof.Gen.ReferenceIdeal.Run
public import Idealize.ShloMosaic.Lib.Pipeline.Value
public import Idealize.ShloMosaic.Lib.ValueIdx
public import Idealize.ShloMosaic.Lib.IdealHost
public import Idealize.ShloMosaic.Lib.StackMember

@[expose] public section

noncomputable section

open scoped BigOperators

namespace Cert.ReferenceIdeal.Ref

open Idealize.ShloMosaic Idealize.ShloMosaic.ValueIdx Idealize.ShloMosaic.TcCoe Idealize.ShloMosaic.StableHlo
open Cert.ReferenceIdeal Cert.ReferenceIdeal.Gen Cert.Gru

/-- A tensor of one row per node. -/
abbrev T : Type := FVec Ideal S10000x128 .f32

/-- The product with a weight matrix. -/
def mm (X : T) (W : FVec Ideal S128x128 .f32) : T :=
  Host.dotGeneral dot_S10000x128_S128x128_S10000x128_1_0_0_1_n_n none X W

/-- A bias laid along every row. -/
def bias (b : FVec Ideal S128 .f32) : T :=
  broadcastInDim S10000x128 ![0, 1] bcast_S1x128_S10000x128_0_1 (broadcastInDim S1x128 ![1] bcast_S128_S1x128_1 b)

/-- One everywhere. -/
def one : T := broadcastInDim S10000x128 ![] bcast_S_S10000x128 (constant S_ .f32 0x3F800000#32)

/-- The sum of the two affine maps of a gate. -/
def pre (X H : T) (wx : FVec Ideal S128x128 .f32) (bx : FVec Ideal S128 .f32) (wh : FVec Ideal S128x128 .f32)
    (bh : FVec Ideal S128 .f32) : T :=
  addf (addf (mm X wx) (bias bx)) (addf (mm H wh) (bias bh))

/-- The logistic function of a tensor. -/
def sig (u : T) : T := Host.divf one (addf one (Host.exp (Host.negf u)))

/-- The arguments of the reference at launch. -/
abbrev Args : Type := Valuation τ Cert.ReferenceIdeal.sig (Elt Ideal)

/-- The update gate. -/
def gateZ (V0 : Args) (X H : T) : T :=
  sig (pre X H (V0 (Proc.devRef .tc main_arg4)) (V0 (Proc.devRef .tc main_arg5)) (V0 (Proc.devRef .tc main_arg6))
    (V0 (Proc.devRef .tc main_arg7)))

/-- The reset gate. -/
def gateR (V0 : Args) (X H : T) : T :=
  sig (pre X H (V0 (Proc.devRef .tc main_arg8)) (V0 (Proc.devRef .tc main_arg9)) (V0 (Proc.devRef .tc main_arg10))
    (V0 (Proc.devRef .tc main_arg11)))

/-- One step of the reference. -/
def stepT (V0 : Args) (X H : T) : T :=
  addf (mulf (gateZ V0 X H) H) (mulf (subf one (gateZ V0 X H))
    (Host.tanh (pre X (mulf H (gateR V0 X H)) (V0 (Proc.devRef .tc main_arg12)) (V0 (Proc.devRef .tc main_arg13))
      (V0 (Proc.devRef .tc main_arg14)) (V0 (Proc.devRef .tc main_arg15)))))

/-! ## The operations at an index -/

/-- The product at an index. -/
theorem mm_apply (X : T) (W : FVec Ideal S128x128 .f32) (n : Fin 10000) (j : Fin 128) :
    mm X W (ix2 n j) = lin (fun k => X (ix2 n k)) (fun k i => W (ix2 k i)) j :=
  StackMember.dotGeneral_plain_apply (m := 10000) (k := 128) (n := 128) none X W n j

/-- A bias that is zero everywhere, at an index. -/
theorem bias_zero (b : FVec Ideal S128 .f32) (hb : ∀ i, b i = 0) (i : S10000x128.Idx) : bias b i = 0 := by
  refine (broadcastInDim_apply ![0, 1] bcast_S1x128_S10000x128_0_1 _ i (ix2 (0 : Fin 1) (i 1 : Fin 128)) (fun a => ?_)).trans
    ((broadcastInDim_apply ![1] bcast_S128_S1x128_1 b _ (ix1 (i 1 : Fin 128)) (fun a => ?_)).trans (hb _))
  · match a with
    | ⟨0, _⟩ => rfl
    | ⟨1, _⟩ => rfl
  · match a with
    | ⟨0, _⟩ => rfl

/-- The tensor of ones at an index. -/
theorem one_apply (i : S10000x128.Idx) : one i = 1 := by
  unfold one
  rw [broadcastInDim_scalar_apply, constant_apply]
  exact Ideal.ofBits_one_f32

/-- The gate's argument at an index, its biases zero. -/
theorem pre_apply (X H : T) (wx : FVec Ideal S128x128 .f32) (bx : FVec Ideal S128 .f32) (wh : FVec Ideal S128x128 .f32)
    (bh : FVec Ideal S128 .f32) (hx : ∀ i, bx i = 0) (hh : ∀ i, bh i = 0) (n : Fin 10000) (j : Fin 128) :
    pre X H wx bx wh bh (ix2 n j)
      = lin (fun k => X (ix2 n k)) (fun k i => wx (ix2 k i)) j + lin (fun k => H (ix2 n k)) (fun k i => wh (ix2 k i)) j := by
  unfold pre
  rw [addf_apply, addf_apply, addf_apply, bias_zero bx hx, bias_zero bh hh, mm_apply, mm_apply]
  show (_ + 0 : EReal) + (_ + 0 : EReal) = _
  rw [add_zero, add_zero]

/-- The logistic function at an index. -/
theorem sig_apply (u : T) (i : S10000x128.Idx) : sig u i = logi (u i) := by
  show Ideal.div (one i) (one i + Ideal.exp (-(u i))) = _
  rw [one_apply]
  rfl

/-- The weights of the reference. -/
def wR (V0 : Args) : Weights where
  xz := fun k j => (V0 (Proc.devRef .tc main_arg4) : FVec Ideal S128x128 .f32) (ix2 k j)
  xr := fun k j => (V0 (Proc.devRef .tc main_arg8) : FVec Ideal S128x128 .f32) (ix2 k j)
  xh := fun k j => (V0 (Proc.devRef .tc main_arg12) : FVec Ideal S128x128 .f32) (ix2 k j)
  hz := fun k j => (V0 (Proc.devRef .tc main_arg6) : FVec Ideal S128x128 .f32) (ix2 k j)
  hr := fun k j => (V0 (Proc.devRef .tc main_arg10) : FVec Ideal S128x128 .f32) (ix2 k j)
  hh := fun k j => (V0 (Proc.devRef .tc main_arg14) : FVec Ideal S128x128 .f32) (ix2 k j)

/-- An array that is zero everywhere. -/
def AllZero {s : Shape} (x : FVec Ideal s .f32) : Prop := ∀ i, x i = 0

/-- What the precondition says of the arguments: the first state and every bias are zero. -/
structure ZeroArgs (V0 : Args) : Prop where
  a3 : AllZero (V0 (Proc.devRef .tc main_arg3))
  a5 : AllZero (V0 (Proc.devRef .tc main_arg5))
  a7 : AllZero (V0 (Proc.devRef .tc main_arg7))
  a9 : AllZero (V0 (Proc.devRef .tc main_arg9))
  a11 : AllZero (V0 (Proc.devRef .tc main_arg11))
  a13 : AllZero (V0 (Proc.devRef .tc main_arg13))
  a15 : AllZero (V0 (Proc.devRef .tc main_arg15))
  a17 : AllZero (V0 (Proc.devRef .tc main_arg17))
  a19 : AllZero (V0 (Proc.devRef .tc main_arg19))

/-- **One step at an index.** -/
theorem stepT_apply (V0 : Args) (hz : ZeroArgs V0) (X H : T) (n : Fin 10000) (j : Fin 128) :
    stepT V0 X H (ix2 n j) = stepR (wR V0) (fun k => X (ix2 n k)) (fun k => H (ix2 n k)) j := by
  have eZ : gateZ V0 X H (ix2 n j)
      = logi (lin (fun k => X (ix2 n k)) (wR V0).xz j + lin (fun k => H (ix2 n k)) (wR V0).hz j) := by
    unfold gateZ
    rw [sig_apply, pre_apply X H _ _ _ _ hz.a5 hz.a7]
    rfl
  have eR : ∀ k : Fin 128, mulf H (gateR V0 X H) (ix2 n k)
      = H (ix2 n k) * logi (lin (fun k => X (ix2 n k)) (wR V0).xr k + lin (fun k => H (ix2 n k)) (wR V0).hr k) := by
    intro k
    rw [mulf_apply]
    unfold gateR
    rw [sig_apply, pre_apply X H _ _ _ _ hz.a9 hz.a11]
    rfl
  unfold stepT
  rw [addf_apply, mulf_apply, mulf_apply, subf_apply, one_apply, eZ]
  refine congrArg (fun z => logi (lin (fun k => X (ix2 n k)) (wR V0).xz j + lin (fun k => H (ix2 n k)) (wR V0).hz j) * H (ix2 n j)
    + (1 - logi (lin (fun k => X (ix2 n k)) (wR V0).xz j + lin (fun k => H (ix2 n k)) (wR V0).hz j)) * z) ?_
  show Ideal.tanh (pre X (mulf H (gateR V0 X H)) _ _ _ _ (ix2 n j)) = _
  rw [pre_apply X _ _ _ _ _ hz.a13 hz.a15]
  simp only [eR]
  rfl

/-! ## The eight states -/

/-- The step's slice of `x`. -/
def xT (V0 : Args) (t : ℕ) : T := fun i =>
  (V0 (Proc.devRef .tc main_arg0) : FVec Ideal S8x10000x128 .f32) (ix3 ⟨t % 8, Nat.mod_lt _ (by omega)⟩ (i 0) (i 1))

/-- A slice with its unit axis cast away. -/
theorem slice_eq (V0 : Args) (t : ℕ) (ht : t < 8) (h : S8x10000x128.Slices ![t, 0, 0] S1x10000x128) :
    shapeCast S10000x128 (extractStridedSlice S1x10000x128 ![t, 0, 0]
      (V0 (Proc.devRef .tc main_arg0) : FVec Ideal S8x10000x128 .f32) h) shapeCasts_S1x10000x128_S10000x128 = xT V0 t := by
  funext i
  obtain ⟨n, j, rfl⟩ : ∃ (n : Fin 10000) (j : Fin 128), i = ix2 n j := ⟨i 0, i 1, eq_ix2 i⟩
  rw [shapeCast_apply _ shapeCasts_S1x10000x128_S10000x128 (ix2 n j) (ix3 (0 : Fin 1) n j) (by
    rw [Shape.rowMajor_val_three, Shape.rowMajor_val_two]
    show (0 * 10000 + n.val) * 128 + j.val = n.val * 128 + j.val
    omega)]
  refine extractStridedSlice_apply _ _ h _ (ix3 ⟨t % 8, Nat.mod_lt _ (by omega)⟩ n j) (fun a => ?_)
  match a with
  | ⟨0, _⟩ => show t % 8 = t + 0; omega
  | ⟨1, _⟩ => show n.val = 0 + n.val; omega
  | ⟨2, _⟩ => show j.val = 0 + j.val; omega

/-- The state after step `t`. -/
def hT (V0 : Args) : ℕ → T
  | 0 => stepT V0 (xT V0 0) (V0 (Proc.devRef .tc main_arg3))
  | t + 1 => stepT V0 (xT V0 (t + 1)) (hT V0 t)

/-- The rows of node `n`. -/
def rowsR (V0 : Args) (n : Fin 10000) (t : ℕ) : Row := fun k => xT V0 t (ix2 n k)

/-- **The state at an index.** -/
theorem hT_apply (V0 : Args) (hz : ZeroArgs V0) (n : Fin 10000) : ∀ (t : ℕ) (j : Fin 128),
    hT V0 t (ix2 n j) = stateR (wR V0) (rowsR V0 n) t j
  | 0, j => by
    show stepT V0 _ _ (ix2 n j) = stepR (wR V0) (rowsR V0 n 0) (fun _ => 0) j
    rw [stepT_apply V0 hz]
    exact congrArg (fun f => stepR (wR V0) (rowsR V0 n 0) f j) (funext fun k => hz.a3 _)
  | t + 1, j => by
    show stepT V0 _ _ (ix2 n j) = stepR (wR V0) (rowsR V0 n (t + 1)) (stateR (wR V0) (rowsR V0 n) t) j
    rw [stepT_apply V0 hz]
    exact congrArg (fun f => stepR (wR V0) (rowsR V0 n (t + 1)) f j) (funext fun k => hT_apply V0 hz n t k)

end Cert.ReferenceIdeal.Ref

end
-- ==== Proof.RefOut.lean ====
/-
  The reference's results, at the ideal instance and under the precondition: the last state of each node
  (`lastT_apply`), and the readout of each step as one sum over the nodes (`outT_apply`).
-/
module

public import proofs.«01_k».proof.Proof.Ref

@[expose] public section

noncomputable section

open scoped BigOperators

namespace Cert.ReferenceIdeal.Ref

open Idealize.ShloMosaic Idealize.ShloMosaic.ValueIdx Idealize.ShloMosaic.TcCoe Idealize.ShloMosaic.StableHlo
open Idealize.SL.Sem
open Cert.ReferenceIdeal Cert.ReferenceIdeal.Gen Cert.Gru

variable (V0 : Args)

/-! ## The named values of the run -/

/-- The slice of step 0. -/
theorem x0_eq : Value.res_main_v1 (F := Ideal) V0 = xT V0 0 := slice_eq V0 0 (by omega) _

/-- The slice of step 1. -/
theorem x1_eq : Value.res_main_v50 (F := Ideal) V0 = xT V0 1 := slice_eq V0 1 (by omega) _

/-- The slice of step 2. -/
theorem x2_eq : Value.res_main_v99 (F := Ideal) V0 = xT V0 2 := slice_eq V0 2 (by omega) _

/-- The slice of step 3. -/
theorem x3_eq : Value.res_main_v148 (F := Ideal) V0 = xT V0 3 := slice_eq V0 3 (by omega) _

/-- The slice of step 4. -/
theorem x4_eq : Value.res_main_v197 (F := Ideal) V0 = xT V0 4 := slice_eq V0 4 (by omega) _

/-- The slice of step 5. -/
theorem x5_eq : Value.res_main_v246 (F := Ideal) V0 = xT V0 5 := slice_eq V0 5 (by omega) _

/-- The slice of step 6. -/
theorem x6_eq : Value.res_main_v295 (F := Ideal) V0 = xT V0 6 := slice_eq V0 6 (by omega) _

/-- The slice of step 7. -/
theorem x7_eq : Value.res_main_v344 (F := Ideal) V0 = xT V0 7 := slice_eq V0 7 (by omega) _

/-- The state after step 0. -/
theorem v47_eq : Value.res_main_v47 (F := Ideal) V0 = hT V0 0 := by
  unfold Value.res_main_v47 Value.res_main_v16
  rw [x0_eq]
  rfl

/-- The state after step 1. -/
theorem v96_eq : Value.res_main_v96 (F := Ideal) V0 = hT V0 1 := by
  unfold Value.res_main_v96 Value.res_main_v65
  rw [x1_eq, v47_eq]
  rfl

/-- The state after step 2. -/
theorem v145_eq : Value.res_main_v145 (F := Ideal) V0 = hT V0 2 := by
  unfold Value.res_main_v145 Value.res_main_v114
  rw [x2_eq, v96_eq]
  rfl

/-- The state after step 3. -/
theorem v194_eq : Value.res_main_v194 (F := Ideal) V0 = hT V0 3 := by
  unfold Value.res_main_v194 Value.res_main_v163
  rw [x3_eq, v145_eq]
  rfl

/-- The state after step 4. -/
theorem v243_eq : Value.res_main_v243 (F := Ideal) V0 = hT V0 4 := by
  unfold Value.res_main_v243 Value.res_main_v212
  rw [x4_eq, v194_eq]
  rfl

/-- The state after step 5. -/
theorem v292_eq : Value.res_main_v292 (F := Ideal) V0 = hT V0 5 := by
  unfold Value.res_main_v292 Value.res_main_v261
  rw [x5_eq, v243_eq]
  rfl

/-- The state after step 6. -/
theorem v341_eq : Value.res_main_v341 (F := Ideal) V0 = hT V0 6 := by
  unfold Value.res_main_v341 Value.res_main_v310
  rw [x6_eq, v292_eq]
  rfl

/-! ## The readout -/

/-- The states of all steps, stacked. -/
theorem stack_apply (t : Fin 8) (n : Fin 10000) (k : Fin 128) :
    Value.res_main_v392 (F := Ideal) V0 (ix3 t n k) = hT V0 t.val (ix2 n k) := by
  have e : Value.res_main_v392 (F := Ideal) V0 = concatenate S8x10000x128 0
      (List.ofFn fun s : Fin 8 => (⟨S1x10000x128, (broadcastInDim S1x10000x128 ![1, 2] bcast_S10000x128_S1x10000x128_1_2
        (hT V0 s.val) : FVec Ideal S1x10000x128 .f32)⟩ : (s : Shape) × (s.Idx → EReal)))
      concatenates_S1x10000x128_S1x10000x128_S1x10000x128_S1x10000x128_S1x10000x128_S1x10000x128_S1x10000x128_S1x10000x128_S8x10000x128_d0 := by
    unfold Value.res_main_v392 Value.res_main_v359
    rw [x7_eq, v47_eq, v96_eq, v145_eq, v194_eq, v243_eq, v292_eq, v341_eq]
    rfl
  rw [e]
  refine (concatenate_ofFn_unit_apply (t := S8x10000x128) (s₁ := S1x10000x128) 0 _ _ rfl rfl (ix3 t n k) t rfl
    (ix3 (0 : Fin 1) n k) (fun b hb => ?_)).trans ?_
  · match b with
    | ⟨0, _⟩ => exact absurd rfl hb
    | ⟨1, _⟩ => rfl
    | ⟨2, _⟩ => rfl
  · refine broadcastInDim_apply ![1, 2] bcast_S10000x128_S1x10000x128_1_2 _ _ (ix2 n k) (fun a => ?_)
    match a with
    | ⟨0, _⟩ => rfl
    | ⟨1, _⟩ => rfl

/-- The rectifier of the reference, entry by entry. -/
theorem leaky_apply {s : Shape} (h : S_.BroadcastsInDim s ![]) (X : FVec Ideal s .f32) (i : s.Idx) :
    select (cmpf .oge X (broadcastInDim s ![] h (constant (F := Ideal) S_ .f32 0x00000000#32))) X
      (mulf (broadcastInDim s ![] h (id (constant (F := Ideal) S_ .f32 0x3C23D70A#32))) X) i = leaky (X i) := by
  rw [select_apply, cmpf_apply, mulf_apply, broadcastInDim_scalar_apply, broadcastInDim_scalar_apply]
  rfl

/-- The first readout product: one sum over the features. -/
theorem dot3_apply (A : FVec Ideal S8x10000x128 .f32) (B : FVec Ideal S128x1 .f32) (t : Fin 8) (n : Fin 10000) :
    Host.dotGeneral dot_S8x10000x128_S128x1_S8x10000x1_2_0_01_1_n_n none A B (ix3 t n (0 : Fin 1))
      = ∑ k : Fin 128, A (ix3 t n k) * B (ix2 k (0 : Fin 1)) := by
  show FloatOps.dotGeneral _ none _ A B (ix3 t n (0 : Fin 1)) = _
  rw [Ideal.dotGeneral_apply,
    ← Equiv.sum_comp (contrEquiv1 dot_S8x10000x128_S128x1_S8x10000x1_2_0_01_1_n_n 128 rfl rfl).symm]
  refine Finset.sum_congr rfl fun c _ => ?_
  have c3 := contrEquiv1_symm_val dot_S8x10000x128_S128x1_S8x10000x1_2_0_01_1_n_n 128 rfl rfl c
  have l3 : dot_S8x10000x128_S128x1_S8x10000x1_2_0_01_1_n_n.lhsIdx (ix3 t n (0 : Fin 1))
      ((contrEquiv1 _ 128 rfl rfl).symm c) = ix3 t n c := by
    funext ax; apply Fin.ext
    match ax with
    | ⟨0, _⟩ => simp [DotDims.lhsIdx, dot_S8x10000x128_S128x1_S8x10000x1_2_0_01_1_n_n]; rfl
    | ⟨1, _⟩ => simp [DotDims.lhsIdx, dot_S8x10000x128_S128x1_S8x10000x1_2_0_01_1_n_n]; rfl
    | ⟨2, _⟩ => simp [DotDims.lhsIdx, dot_S8x10000x128_S128x1_S8x10000x1_2_0_01_1_n_n]; exact c3
  have r3 : dot_S8x10000x128_S128x1_S8x10000x1_2_0_01_1_n_n.rhsIdx (ix3 t n (0 : Fin 1))
      ((contrEquiv1 _ 128 rfl rfl).symm c) = ix2 c (0 : Fin 1) := by
    funext ax; apply Fin.ext
    match ax with
    | ⟨0, _⟩ => simp [DotDims.rhsIdx, dot_S8x10000x128_S128x1_S8x10000x1_2_0_01_1_n_n]; exact c3
    | ⟨1, _⟩ => simp [DotDims.rhsIdx, dot_S8x10000x128_S128x1_S8x10000x1_2_0_01_1_n_n]
  rw [l3, r3]

/-- The first readout weights. -/
def w1R : Row := fun k => (V0 (Proc.devRef .tc main_arg16) : FVec Ideal S128x1 .f32) (ix2 k (0 : Fin 1))

/-- The second readout weight of node `n`. -/
def w2R (n : Fin 10000) : EReal := (V0 (Proc.devRef .tc main_arg18) : FVec Ideal S10000x1 .f32) (ix2 n (0 : Fin 1))

/-- The first readout layer at an index. -/
theorem v397_apply (hz : ZeroArgs V0) (t : Fin 8) (n : Fin 10000) :
    Value.res_main_v397 (F := Ideal) V0 (ix3 t n (0 : Fin 1))
      = ∑ k : Fin 128, leaky (stateR (wR V0) (rowsR V0 n) t.val k) * w1R V0 k := by
  unfold Value.res_main_v397
  rw [addf_apply]
  have eb : broadcastInDim S8x10000x1 ![0, 1, 2] bcast_S1x1x1_S8x10000x1_0_1_2
      (broadcastInDim S1x1x1 ![2] bcast_S1_S1x1x1_2 (V0 (Proc.devRef .tc main_arg17) : FVec Ideal S1 .f32))
      (ix3 t n (0 : Fin 1)) = (0 : EReal) := by
    refine (broadcastInDim_apply ![0, 1, 2] bcast_S1x1x1_S8x10000x1_0_1_2 _ _ (ix3 (0 : Fin 1) (0 : Fin 1) (0 : Fin 1))
      (fun a => ?_)).trans ((broadcastInDim_apply ![2] bcast_S1_S1x1x1_2 _ _ (ix1 (0 : Fin 1)) (fun a => ?_)).trans (hz.a17 _))
    · match a with
      | ⟨0, _⟩ => rfl
      | ⟨1, _⟩ => rfl
      | ⟨2, _⟩ => rfl
    · match a with
      | ⟨0, _⟩ => rfl
  refine (congrArg₂ (fun a b : EReal => a + b) (dot3_apply _ _ t n) eb).trans ?_
  show (_ + 0 : EReal) = _
  rw [add_zero]
  refine Finset.sum_congr rfl fun k _ => ?_
  rw [leaky_apply, stack_apply, hT_apply V0 hz]
  rfl

/-- The readout, as the run writes it. -/
def outT : FVec Ideal S8 .f32 :=
  shapeCast S8 (addf
    (Host.dotGeneral (φ₁ := .f32) (φ₂ := .f32) dot_S8x10000_S10000x1_S8x1_1_0_0_1_n_n none
      (shapeCast S8x10000
        (select
          (cmpf .oge (Value.res_main_v397 (F := Ideal) V0)
            (broadcastInDim S8x10000x1 ![] bcast_S_S8x10000x1 (constant (F := Ideal) S_ .f32 0x00000000#32)))
          (Value.res_main_v397 (F := Ideal) V0)
          (mulf (broadcastInDim S8x10000x1 ![] bcast_S_S8x10000x1 (id (constant (F := Ideal) S_ .f32 0x3C23D70A#32)))
            (Value.res_main_v397 (F := Ideal) V0)))
        shapeCasts_S8x10000x1_S8x10000)
      (V0 (Proc.devRef .tc main_arg18)))
    (broadcastInDim S8x1 ![0, 1] bcast_S1x1_S8x1_0_1
      (broadcastInDim S1x1 ![1] bcast_S1_S1x1_1 (V0 (Proc.devRef .tc main_arg19) : FVec Ideal S1 .f32))))
    shapeCasts_S8x1_S8

/-- **The readout at an index.** -/
theorem outT_apply (hz : ZeroArgs V0) (t : Fin 8) :
    outT V0 (ix1 t) = ∑ n : Fin 10000, readRow (w1R V0) (w2R V0 n) (stateR (wR V0) (rowsR V0 n) t.val) := by
  unfold outT
  refine (shapeCast_apply _ shapeCasts_S8x1_S8 (ix1 t) (ix2 t (0 : Fin 1)) (by
    rw [Shape.rowMajor_val_two, Shape.rowMajor_val_one]
    show t.val * 1 + 0 = t.val
    omega)).trans ?_
  rw [addf_apply]
  have eb : broadcastInDim S8x1 ![0, 1] bcast_S1x1_S8x1_0_1
      (broadcastInDim S1x1 ![1] bcast_S1_S1x1_1 (V0 (Proc.devRef .tc main_arg19) : FVec Ideal S1 .f32))
      (ix2 t (0 : Fin 1)) = (0 : EReal) := by
    refine (broadcastInDim_apply ![0, 1] bcast_S1x1_S8x1_0_1 _ _ (ix2 (0 : Fin 1) (0 : Fin 1))
      (fun a => ?_)).trans ((broadcastInDim_apply ![1] bcast_S1_S1x1_1 _ _ (ix1 (0 : Fin 1)) (fun a => ?_)).trans (hz.a19 _))
    · match a with
      | ⟨0, _⟩ => rfl
      | ⟨1, _⟩ => rfl
    · match a with
      | ⟨0, _⟩ => rfl
  refine (congrArg₂ (fun a b : EReal => a + b)
    (StackMember.dotGeneral_plain_apply (m := 8) (k := 10000) (n := 1) none _ _ t (0 : Fin 1)) eb).trans ?_
  show (_ + 0 : EReal) = _
  rw [add_zero]
  refine Finset.sum_congr rfl fun n _ => ?_
  unfold readRow
  refine congrArg (fun z : EReal => z * w2R V0 n) ?_
  refine (shapeCast_apply _ shapeCasts_S8x10000x1_S8x10000 (ix2 t n) (ix3 t n (0 : Fin 1)) (by
    rw [Shape.rowMajor_val_three, Shape.rowMajor_val_two]
    show (t.val * 10000 + n.val) * 1 + 0 = t.val * 10000 + n.val
    omega)).trans ?_
  rw [leaky_apply, v397_apply V0 hz]

/-- **The reference's run**: both results, the arguments unchanged. -/
theorem run (m : (ℓ : Loc nD τ Cert.ReferenceIdeal.sig) → Buf (Elt Ideal) ℓ) (ρ : Dev nD → PrngReg) :
    θ_run defs (onTc (τ := τ) (main (F := Ideal))) ⟨m, fun _ => 0, ρ⟩ fun r => ∀ c : Dev nD,
    r.2.mem ((c.tc : Thread nD τ).loc main_v404) = outT (launchContents m c)
    ∧ r.2.mem ((c.tc : Thread nD τ).loc main_v390) = hT (launchContents m c) 7
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)
    ∧ r.2.mem ((c.tc : Thread nD τ).loc main_arg17) = m ((c.tc : Thread nD τ).loc main_arg17)
    ∧ r.2.mem ((c.tc : Thread nD τ).loc main_arg18) = m ((c.tc : Thread nD τ).loc main_arg18)
    ∧ r.2.mem ((c.tc : Thread nD τ).loc main_arg19) = m ((c.tc : Thread nD τ).loc main_arg19) :=
  (θ_run defs _ _).mono (fun _ h c => ⟨(h c).1, (h c).2.1.trans (by
    unfold Value.res_main_v359
    rw [x7_eq, v341_eq]
    rfl), (h c).2.2⟩) (Value.run (F := Ideal) m ρ)

end Cert.ReferenceIdeal.Ref

end
-- ==== Proof.Pre.lean ====
/-
  What the precondition says, read off the printed predicate: the first state and every bias are zero at every index.
-/
module

public import proofs.«01_k».proof.Defs
public import proofs.«01_k».proof.Proof.RefOut
public import proofs.«01_k».proof.Proof.Gen.Pre_zero_state
public import Idealize.ShloMosaic.Lib.ReduceAll

@[expose] public section

noncomputable section

namespace Cert.Pre_zero_state.Read

open Idealize.ShloMosaic Idealize.ShloMosaic.ValueIdx
open Cert.Pre_zero_state Cert.Pre_zero_state.Gen Cert.ReferenceIdeal.Ref

/-- An array every entry of which compares equal to zero is zero. -/
theorem allZero_of {s : Shape} {axes : List (Fin s.rank)} (x : FVec Ideal s .f32) (hb : S_.BroadcastsInDim s ![])
    (h : s.ReducesTo axes S_) (j : S_.Idx)
    (e : Host.reduce IntOp.andi (cmpf .oeq x (broadcastInDim s ![] hb (constant (F := Ideal) S_ .f32 0x00000000#32)))
      (constantI S_ 1 1#1) h h_S_ j = 1#1) : AllZero x := by
  intro i
  haveI : Subsingleton S_.Idx := ⟨fun a b => funext fun k => k.elim0⟩
  have e1 := Host.reduce_andi_all _ _ h h_S_ j e i
  rw [cmpf_apply, broadcastInDim_scalar_apply, constant_apply] at e1
  have e2 : BitVec.ofBool (decide (x i = Ideal.ofBits .f32 0x00000000#32)) = 1#1 := e1
  rw [Ideal.ofBits_zero_f32] at e2
  by_contra hne
  have hne' : ¬ (x i = (0 : EReal)) := hne
  rw [decide_eq_false hne'] at e2
  exact absurd e2 (by decide)

/-- **The predicate read back**: the nine arrays it tests are zero. -/
theorem read (a0 : FVec Ideal S8x10000x128 .f32) (a1 : IVec S2x320000 32) (a2 : FVec Ideal S320000 .f32)
    (a3 : FVec Ideal S10000x128 .f32) (a4 : FVec Ideal S128x128 .f32) (a5 : FVec Ideal S128 .f32)
    (a6 : FVec Ideal S128x128 .f32) (a7 : FVec Ideal S128 .f32) (a8 : FVec Ideal S128x128 .f32) (a9 : FVec Ideal S128 .f32)
    (a10 : FVec Ideal S128x128 .f32) (a11 : FVec Ideal S128 .f32) (a12 : FVec Ideal S128x128 .f32) (a13 : FVec Ideal S128 .f32)
    (a14 : FVec Ideal S128x128 .f32) (a15 : FVec Ideal S128 .f32) (a16 : FVec Ideal S128x1 .f32) (a17 : FVec Ideal S1 .f32)
    (a18 : FVec Ideal S10000x1 .f32) (a19 : FVec Ideal S1 .f32)
    (e : fn (F := Ideal) a0 a1 a2 a3 a4 a5 a6 a7 a8 a9 a10 a11 a12 a13 a14 a15 a16 a17 a18 a19 = fun _ => 1#1) :
    AllZero a3 ∧ AllZero a5 ∧ AllZero a7 ∧ AllZero a9 ∧ AllZero a11 ∧ AllZero a13 ∧ AllZero a15 ∧ AllZero a17 ∧ AllZero a19 := by
  have e0 := congrFun e ix0
  obtain ⟨e1, h19⟩ := IntOp.andi_eq_one.1 e0
  obtain ⟨e2, h17⟩ := IntOp.andi_eq_one.1 e1
  obtain ⟨e3, h15⟩ := IntOp.andi_eq_one.1 e2
  obtain ⟨e4, h13⟩ := IntOp.andi_eq_one.1 e3
  obtain ⟨e5, h11⟩ := IntOp.andi_eq_one.1 e4
  obtain ⟨e6, h9⟩ := IntOp.andi_eq_one.1 e5
  obtain ⟨e7, h7⟩ := IntOp.andi_eq_one.1 e6
  obtain ⟨h3, h5⟩ := IntOp.andi_eq_one.1 e7
  exact ⟨allZero_of a3 _ _ _ h3, allZero_of a5 _ _ _ h5, allZero_of a7 _ _ _ h7, allZero_of a9 _ _ _ h9,
    allZero_of a11 _ _ _ h11, allZero_of a13 _ _ _ h13, allZero_of a15 _ _ _ h15, allZero_of a17 _ _ _ h17,
    allZero_of a19 _ _ _ h19⟩

end Cert.Pre_zero_state.Read

end
-- ==== Proof.Equal.lean ====
/-
  The equation: the kernel's two results, read at an index, are the reference's, when the two start from the same
  arguments and the reference's first state and biases are zero.
-/
module

public import proofs.«01_k».proof.Proof.Arrays
public import proofs.«01_k».proof.Proof.RefOut
public import Idealize.ShloMosaic.Lib.Pointwise.Reduce

@[expose] public section

noncomputable section

open scoped BigOperators

namespace Cert.Equal

open Idealize.ShloMosaic hiding ix1 ix2 ix3 eq_ix1 eq_ix2
open Idealize.ShloMosaic.TcCoe Idealize.ShloMosaic.ValueIdx
open Cert.KernelIdeal Cert.KernelIdeal.Gen Cert.KernelIdeal.Block Cert.Gru
open Cert.ReferenceIdeal.Ref (Args ZeroArgs wR rowsR w1R w2R outT hT)

variable (m : (ℓ : Loc nD τ sig) → Buf (Elt Ideal) ℓ) (c : Dev nD)

/-- The nodes, block by block. -/
theorem sum_blocks (f : Fin 10000 → EReal) : ∑ i : Fin 5, ∑ n : Fin 2000, f (rowAt i n) = ∑ n : Fin 10000, f n := by
  rw [← Fintype.sum_prod_type']
  refine Fintype.sum_equiv (finProdFinEquiv (m := 5) (n := 2000)) _ _ fun p => congrArg f (Fin.ext ?_)
  show p.1.val * 2000 + p.2.val = p.2.val + 2000 * p.1.val
  omega

/-- **The kernel's readout at an index**: one sum over the nodes. -/
theorem out_apply (t : Fin 8) :
    out m c (ix1 t) = ∑ n : Fin 10000, readRow (fun k => aW1 m c (ix2 k (0 : Fin 1))) (aW2 m c (ix2 n (0 : Fin 1)))
      (stateK (aW m c) (rows (aX m c) n) t.val) := by
  unfold out
  refine (shapeCast_apply _ shapeCasts_S8x1_S8 (ix1 t) (ix2 t (0 : Fin 1)) (by
    rw [Shape.rowMajor_val_two, Shape.rowMajor_val_one]
    show t.val * 1 + 0 = t.val
    omega)).trans ?_
  refine (extractStridedSlice_apply _ _ slices_S8x128_S8x1_0_0 _ (ix2 t (0 : Fin 128)) (fun a => ?_)).trans ?_
  · match a with
    | ⟨0, _⟩ => show t.val = 0 + t.val; omega
    | ⟨1, _⟩ => rfl
  rw [hostReduceAdd_apply]
  refine (Ideal.hostReduceAdd_r3_a0 (n0 := 5) (n1 := 8) (n2 := 128) _ _ _ _).trans ?_
  rw [constant_apply, Ideal.ofBits_zero_f32, zero_add]
  exact sum_blocks fun n => readRow (fun k => aW1 m c (ix2 k (0 : Fin 1))) (aW2 m c (ix2 n (0 : Fin 1)))
      (stateK (aW m c) (rows (aX m c) n) t.val)

/-- The reference starts from the kernel's arguments. -/
structure Same (V0 : Args) : Prop where
  s0 : V0 (Proc.devRef .tc Cert.ReferenceIdeal.main_arg0) = aX m c
  s4 : V0 (Proc.devRef .tc Cert.ReferenceIdeal.main_arg4) = aXz m c
  s6 : V0 (Proc.devRef .tc Cert.ReferenceIdeal.main_arg6) = aHz m c
  s8 : V0 (Proc.devRef .tc Cert.ReferenceIdeal.main_arg8) = aXr m c
  s10 : V0 (Proc.devRef .tc Cert.ReferenceIdeal.main_arg10) = aHr m c
  s12 : V0 (Proc.devRef .tc Cert.ReferenceIdeal.main_arg12) = aXh m c
  s14 : V0 (Proc.devRef .tc Cert.ReferenceIdeal.main_arg14) = aHh m c
  s16 : V0 (Proc.devRef .tc Cert.ReferenceIdeal.main_arg16) = aW1 m c
  s18 : V0 (Proc.devRef .tc Cert.ReferenceIdeal.main_arg18) = aW2 m c

variable (V0 : Args)

/-- Then the two programs have the same weights. -/
theorem w_eq (h : Same m c V0) : wR V0 = aW m c := by
  unfold wR
  rw [h.s4, h.s6, h.s8, h.s10, h.s12, h.s14]
  rfl

/-- Then the two programs see the same rows of `x`. -/
theorem rows_eq (h : Same m c V0) (n : Fin 10000) : rowsR V0 n = rows (aX m c) n := by
  funext t k
  unfold rowsR Cert.ReferenceIdeal.Ref.xT
  rw [h.s0]
  rfl

/-- **The readouts are equal.** -/
theorem out_eq (h : Same m c V0) (hz : ZeroArgs V0) : outT V0 = out m c := by
  funext i
  obtain ⟨t, rfl⟩ : ∃ t : Fin 8, i = ix1 t := ⟨i 0, eq_ix1 i⟩
  refine (Cert.ReferenceIdeal.Ref.outT_apply V0 hz t).trans ((Finset.sum_congr rfl fun n _ => ?_).trans (out_apply m c t).symm)
  rw [w_eq m c V0 h, rows_eq m c V0 h n, stateK_eq]
  unfold w1R w2R
  rw [h.s16, h.s18]

/-- **The last states are equal.** -/
theorem last_eq (h : Same m c V0) (hz : ZeroArgs V0) : hT V0 7 = final10 m c := by
  funext i
  obtain ⟨n, j, rfl⟩ : ∃ (n : Fin 10000) (j : Fin 128), i = ix2 n j := ⟨i 0, i 1, eq_ix2 i⟩
  refine (Cert.ReferenceIdeal.Ref.hT_apply V0 hz n 7 j).trans ?_
  rw [w_eq m c V0 h, rows_eq m c V0 h n, ← stateK_eq]
  rfl

end Cert.Equal

end
-- ==== Proof.lean ====
/-
  The proof of `Cert.Claim`: the three frames, the preservation of the kernel by its idealization, and the equality of
  the kernel's results with the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_zero_state
public import proofs.«01_k».proof.Proof.Gen.ReferenceIdeal.Run
public import proofs.«01_k».proof.Proof.Arrays
public import proofs.«01_k».proof.Proof.RefOut
public import proofs.«01_k».proof.Proof.Pre
public import proofs.«01_k».proof.Proof.Equal
public import Idealize.ShloMosaic.Lib.Quiescent
public import Idealize.ShloMosaic.Adequacy
public import Idealize.ShloMosaic.Init

@[expose] public section

noncomputable section

namespace Cert.Proof

open Idealize.ShloMosaic Idealize.ShloMosaic.StableHlo Idealize.SL.Sem

/-- The reference terminates with its arguments unchanged and every counter at zero. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
        ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
        ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
        ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
        ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
        ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
        ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
        ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
        ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
        ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
        ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)) ∧ r.2.sem = fun _ => 0 :=
  (θ_run Cert.ReferenceIdeal.defs _ _).mono
    (fun r h => ⟨fun c => (h c).2.2, Idealize.ShloMosaic.sem_eq_zero_of_no_sems (by decide) r.2⟩)
    (Cert.ReferenceIdeal.Ref.run m g)

/-- Under the precondition the two programs end with equal results. -/
theorem results_equal : Cert.algebraic_KernelIdeal_ReferenceIdeal_pre_zero_state := by
  intro m g m' g' hpre hargs
  have same : ∀ c, Cert.Equal.Same m c (launchContents m' c) := fun c => by
    obtain ⟨h0, h1, h2, h3, h4, h5, h6, h7, h8, h9, h10, h11, h12, h13, h14, h15, h16, h17, h18, h19⟩ := hargs c
    exact ⟨h0, h4, h6, h8, h10, h12, h14, h16, h18⟩
  have zero : ∀ c, Cert.ReferenceIdeal.Ref.ZeroArgs (launchContents m' c) := fun c => by
    obtain ⟨h0, h1, h2, h3, h4, h5, h6, h7, h8, h9, h10, h11, h12, h13, h14, h15, h16, h17, h18, h19⟩ := hargs c
    obtain ⟨z3, z5, z7, z9, z11, z13, z15, z17, z19⟩ := Cert.Pre_zero_state.Read.read _ _ _ _ _ _ _ _ _ _ _ _ _ _ _ _ _ _ _ _ (hpre c)
    exact ⟨fun i => (congrFun h3 i).trans (z3 i), fun i => (congrFun h5 i).trans (z5 i), fun i => (congrFun h7 i).trans (z7 i),
      fun i => (congrFun h9 i).trans (z9 i), fun i => (congrFun h11 i).trans (z11 i), fun i => (congrFun h13 i).trans (z13 i),
      fun i => (congrFun h15 i).trans (z15 i), fun i => (congrFun h17 i).trans (z17 i), fun i => (congrFun h19 i).trans (z19 i)⟩
  exact ⟨fun c => Cert.KernelIdeal.Block.out m c, fun c => Cert.KernelIdeal.Block.final10 m c,
    Cert.KernelIdeal.Block.run m g,
    (θ_run Cert.ReferenceIdeal.defs _ _).mono
      (fun r h c => ⟨(h c).1.trans (Cert.Equal.out_eq m c _ (same c) (zero c)),
        (h c).2.1.trans (Cert.Equal.last_eq m c _ (same c) (zero c)), (h c).2.2⟩)
      (Cert.ReferenceIdeal.Ref.run m' g')⟩

/-- The claims of this file's program, all of them. -/
theorem claim : Cert.Claim := ⟨Cert.Kernel.Gen.facts, Cert.KernelIdeal.Gen.facts, Cert.ReferenceIdeal.Gen.facts, Cert.Pre_zero_state.Gen.facts,
  fun m ρ _ => Cert.Kernel.Gen.frame m ρ,
  fun m ρ _ => Cert.KernelIdeal.Gen.frame m ρ,
  fun m ρ _ => Cert.KernelIdeal.Gen.frame m ρ,
  fun m ρ _ => frame_reference m ρ,
  fun m ρ _ => frame_reference m ρ,
  trivial,
  results_equal⟩

end Cert.Proof

end
